-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![8192, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S256x512 : Shape := ⟨2, ![256, 512]⟩
abbrev S18 : Shape := ⟨1, ![18]⟩
abbrev S_ : Shape := ⟨0, ![]⟩
abbrev S1 : Shape := ⟨1, ![1]⟩
abbrev S128x512 : Shape := ⟨2, ![128, 512]⟩

abbrev nBuf : Space → Nat
  | .hbm => 2
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .local _ .vmem, ⟨0, _⟩ => ⟨S2048x512, .f32⟩
  | .local _ .vmem, ⟨1, _⟩ => ⟨S2048x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_26 : BitVec 32 := 1#32
  let v44 : BitVec 32 := Scalar.muli v5 c1_i32_26
  let v45 : BitVec 32 := Scalar.addi c0_i32 v44
  v45.toNat
def k0_dev2 (d0 : Dev nD) : Nat :=
  let c0_i32_29 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_28 : BitVec 32 := 1#32
  let v46 : BitVec 32 := Scalar.muli v6 c1_i32_28
  let v47 : BitVec 32 := Scalar.addi c0_i32_29 v46
  v47.toNat
def k0_off1 (d0 : Dev nD) : Fin 2 → Nat :=
  let c512_i32_10 : BitVec 32 := 512#32
  let c1_i32_9 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v21 : BitVec 32 := Scalar.xori v3 v4
  let v22 : BitVec 32 := Scalar.subi c1_i32_9 v21
  let v23 : BitVec 32 := Scalar.muli c512_i32_10 v22
  let c256_i32_12 : BitVec 32 := 256#32
  let c1_i32_11 : BitVec 32 := 1#32
  let v24 : BitVec 32 := Scalar.subi c1_i32_11 v4
  let v25 : BitVec 32 := Scalar.muli c256_i32_12 v24
  let v26 : BitVec 32 := Scalar.addi v23 v25
  let c0_i32_37 : BitVec 32 := 0#32
  ![v26.toNat, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_33 : BitVec 32 := 1#32
  let v50 : BitVec 32 := Scalar.muli v5 c1_i32_33
  let v51 : BitVec 32 := Scalar.addi c0_i32_34 v50
  v51.toNat
def k0_off2 (d0 : Dev nD) : Fin 2 → Nat :=
  let c1024_i32 : BitVec 32 := 1024#32
  let c512_i32_23 : BitVec 32 := 512#32
  let c1_i32_22 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v39 : BitVec 32 := Scalar.subi c1_i32_22 v4
  let v40 : BitVec 32 := Scalar.muli c512_i32_23 v39
  let c256_i32_24 : BitVec 32 := 256#32
  let c1_i32_0 : BitVec 32 := 1#32
  let v3 : BitVec 32 := Scalar.andi v2 c1_i32_0
  let v41 : BitVec 32 := Scalar.muli c256_i32_24 v3
  let v42 : BitVec 32 := Scalar.addi v40 v41
  let v48 : BitVec 32 := Scalar.addi c1024_i32 v42
  let c0_i32_44 : BitVec 32 := 0#32
  ![v48.toNat, 0]
def k0_dev4 (d0 : Dev nD) : Nat :=
  let c0_i32_41 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_40 : BitVec 32 := 1#32
  let v58 : BitVec 32 := Scalar.muli v6 c1_i32_40
  let v59 : BitVec 32 := Scalar.addi c0_i32_41 v58
  v59.toNat
def k0_off3 (d0 : Dev nD) : Fin 2 → Nat :=
  let c512_i32_7 : BitVec 32 := 512#32
  let c1_i32_6 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v16 : BitVec 32 := Scalar.xori v3 v4
  let v17 : BitVec 32 := Scalar.subi c1_i32_6 v16
  let v18 : BitVec 32 := Scalar.muli c512_i32_7 v17
  let c256_i32_8 : BitVec 32 := 256#32
  let v19 : BitVec 32 := Scalar.muli c256_i32_8 v4
  let v20 : BitVec 32 := Scalar.addi v18 v19
  let c0_i32_51 : BitVec 32 := 0#32
  ![v20.toNat, 0]
def k0_dev5 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_47 : BitVec 32 := 1#32
  let v66 : BitVec 32 := Scalar.muli v5 c1_i32_47
  let v67 : BitVec 32 := Scalar.addi c0_i32_48 v66
  v67.toNat
def k0_off4 (d0 : Dev nD) : Fin 2 → Nat :=
  let c1024_i32_30 : BitVec 32 := 1024#32
  let c512_i32_19 : BitVec 32 := 512#32
  let c1_i32_18 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v34 : BitVec 32 := Scalar.subi c1_i32_18 v4
  let v35 : BitVec 32 := Scalar.muli c512_i32_19 v34
  let c256_i32_21 : BitVec 32 := 256#32
  let c1_i32_20 : BitVec 32 := 1#32
  let c1_i32_0 : BitVec 32 := 1#32
  let v3 : BitVec 32 := Scalar.andi v2 c1_i32_0
  let v36 : BitVec 32 := Scalar.subi c1_i32_20 v3
  let v37 : BitVec 32 := Scalar.muli c256_i32_21 v36
  let v38 : BitVec 32 := Scalar.addi v35 v37
  let v49 : BitVec 32 := Scalar.addi c1024_i32_30 v38
  let c0_i32_58 : BitVec 32 := 0#32
  ![v49.toNat, 0]
def k0_dev6 (d0 : Dev nD) : Nat :=
  let c0_i32_55 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_54 : BitVec 32 := 1#32
  let v74 : BitVec 32 := Scalar.muli v6 c1_i32_54
  let v75 : BitVec 32 := Scalar.addi c0_i32_55 v74
  v75.toNat
def k0_off5 (d0 : Dev nD) : Fin 2 → Nat :=
  let c512_i32_3 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v11 : BitVec 32 := Scalar.xori v3 v4
  let v12 : BitVec 32 := Scalar.muli c512_i32_3 v11
  let c256_i32_5 : BitVec 32 := 256#32
  let c1_i32_4 : BitVec 32 := 1#32
  let v13 : BitVec 32 := Scalar.subi c1_i32_4 v4
  let v14 : BitVec 32 := Scalar.muli c256_i32_5 v13
  let v15 : BitVec 32 := Scalar.addi v12 v14
  let v88 : Index := Scalar.indexCast v15
  let c0 : Index := 0#32
  ![v88.toNat, 0]
def k0_off6 (d0 : Dev nD) : Fin 2 → Nat :=
  let c512_i32_3 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v11 : BitVec 32 := Scalar.xori v3 v4
  let v12 : BitVec 32 := Scalar.muli c512_i32_3 v11
  let c256_i32_5 : BitVec 32 := 256#32
  let c1_i32_4 : BitVec 32 := 1#32
  let v13 : BitVec 32 := Scalar.subi c1_i32_4 v4
  let v14 : BitVec 32 := Scalar.muli c256_i32_5 v13
  let v15 : BitVec 32 := Scalar.addi v12 v14
  let c0_i32_75 : BitVec 32 := 0#32
  ![v15.toNat, 0]
def k0_dev7 (d0 : Dev nD) : Nat :=
  let c0_i32_72 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_71 : BitVec 32 := 1#32
  let v95 : BitVec 32 := Scalar.muli v6 c1_i32_71
  let v96 : BitVec 32 := Scalar.addi c0_i32_72 v95
  v96.toNat
def k0_off7 (d0 : Dev nD) : Fin 2 → Nat :=
  let c512_i32_3 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v11 : BitVec 32 := Scalar.xori v3 v4
  let v12 : BitVec 32 := Scalar.muli c512_i32_3 v11
  let c256_i32_5 : BitVec 32 := 256#32
  let c1_i32_4 : BitVec 32 := 1#32
  let v13 : BitVec 32 := Scalar.subi c1_i32_4 v4
  let v14 : BitVec 32 := Scalar.muli c256_i32_5 v13
  let v15 : BitVec 32 := Scalar.addi v12 v14
  let c128_i32 : BitVec 32 := 128#32
  let v103 : BitVec 32 := Scalar.addi v15 c128_i32
  let v104 : Index := Scalar.indexCast v103
  let c0_76 : Index := 0#32
  ![v104.toNat, 0]
def k0_off8 (d0 : Dev nD) : Fin 2 → Nat :=
  let c512_i32_3 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v11 : BitVec 32 := Scalar.xori v3 v4
  let v12 : BitVec 32 := Scalar.muli c512_i32_3 v11
  let c256_i32_5 : BitVec 32 := 256#32
  let c1_i32_4 : BitVec 32 := 1#32
  let v13 : BitVec 32 := Scalar.subi c1_i32_4 v4
  let v14 : BitVec 32 := Scalar.muli c256_i32_5 v13
  let v15 : BitVec 32 := Scalar.addi v12 v14
  let c128_i32_80 : BitVec 32 := 128#32
  let v112 : BitVec 32 := Scalar.addi v15 c128_i32_80
  let c0_i32_86 : BitVec 32 := 0#32
  ![v112.toNat, 0]
def k0_dev8 (d0 : Dev nD) : Nat :=
  let c0_i32_83 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_82 : BitVec 32 := 1#32
  let v113 : BitVec 32 := Scalar.muli v6 c1_i32_82
  let v114 : BitVec 32 := Scalar.addi c0_i32_83 v113
  v114.toNat
def k0_off9 (d0 : Dev nD) : Fin 2 → Nat :=
  let c1024_i32_94 : BitVec 32 := 1024#32
  let c512_i32_15 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v30 : BitVec 32 := Scalar.muli c512_i32_15 v4
  let c256_i32_17 : BitVec 32 := 256#32
  let c1_i32_16 : BitVec 32 := 1#32
  let c1_i32_0 : BitVec 32 := 1#32
  let v3 : BitVec 32 := Scalar.andi v2 c1_i32_0
  let v31 : BitVec 32 := Scalar.subi c1_i32_16 v3
  let v32 : BitVec 32 := Scalar.muli c256_i32_17 v31
  let v33 : BitVec 32 := Scalar.addi v30 v32
  let v127 : BitVec 32 := Scalar.addi c1024_i32_94 v33
  let v128 : Index := Scalar.indexCast v127
  let c0_95 : Index := 0#32
  ![v128.toNat, 0]
def k0_off10 (d0 : Dev nD) : Fin 2 → Nat :=
  let c1024_i32_100 : BitVec 32 := 1024#32
  let c512_i32_15 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v30 : BitVec 32 := Scalar.muli c512_i32_15 v4
  let c256_i32_17 : BitVec 32 := 256#32
  let c1_i32_16 : BitVec 32 := 1#32
  let c1_i32_0 : BitVec 32 := 1#32
  let v3 : BitVec 32 := Scalar.andi v2 c1_i32_0
  let v31 : BitVec 32 := Scalar.subi c1_i32_16 v3
  let v32 : BitVec 32 := Scalar.muli c256_i32_17 v31
  let v33 : BitVec 32 := Scalar.addi v30 v32
  let v136 : BitVec 32 := Scalar.addi c1024_i32_100 v33
  let c0_i32_106 : BitVec 32 := 0#32
  ![v136.toNat, 0]
def k0_dev9 (d0 : Dev nD) : Nat :=
  let c0_i32_103 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_102 : BitVec 32 := 1#32
  let v137 : BitVec 32 := Scalar.muli v5 c1_i32_102
  let v138 : BitVec 32 := Scalar.addi c0_i32_103 v137
  v138.toNat
def k0_off11 (d0 : Dev nD) : Fin 2 → Nat :=
  let c1024_i32_107 : BitVec 32 := 1024#32
  let c512_i32_15 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v30 : BitVec 32 := Scalar.muli c512_i32_15 v4
  let c256_i32_17 : BitVec 32 := 256#32
  let c1_i32_16 : BitVec 32 := 1#32
  let c1_i32_0 : BitVec 32 := 1#32
  let v3 : BitVec 32 := Scalar.andi v2 c1_i32_0
  let v31 : BitVec 32 := Scalar.subi c1_i32_16 v3
  let v32 : BitVec 32 := Scalar.muli c256_i32_17 v31
  let v33 : BitVec 32 := Scalar.addi v30 v32
  let v145 : BitVec 32 := Scalar.addi c1024_i32_107 v33
  let c128_i32_108 : BitVec 32 := 128#32
  let v146 : BitVec 32 := Scalar.addi v145 c128_i32_108
  let v147 : Index := Scalar.indexCast v146
  let c0_109 : Index := 0#32
  ![v147.toNat, 0]
def k0_off12 (d0 : Dev nD) : Fin 2 → Nat :=
  let c1024_i32_115 : BitVec 32 := 1024#32
  let c512_i32_15 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v30 : BitVec 32 := Scalar.muli c512_i32_15 v4
  let c256_i32_17 : BitVec 32 := 256#32
  let c1_i32_16 : BitVec 32 := 1#32
  let c1_i32_0 : BitVec 32 := 1#32
  let v3 : BitVec 32 := Scalar.andi v2 c1_i32_0
  let v31 : BitVec 32 := Scalar.subi c1_i32_16 v3
  let v32 : BitVec 32 := Scalar.muli c256_i32_17 v31
  let v33 : BitVec 32 := Scalar.addi v30 v32
  let v156 : BitVec 32 := Scalar.addi c1024_i32_115 v33
  let c128_i32_116 : BitVec 32 := 128#32
  let v157 : BitVec 32 := Scalar.addi v156 c128_i32_116
  let c0_i32_122 : BitVec 32 := 0#32
  ![v157.toNat, 0]
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_118 : BitVec 32 := 1#32
  let v158 : BitVec 32 := Scalar.muli v5 c1_i32_118
  let v159 : BitVec 32 := Scalar.addi c0_i32_119 v158
  v159.toNat
def k0_off13 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v7 : BitVec 32 := Scalar.xori v3 v4
  let v8 : BitVec 32 := Scalar.muli c512_i32 v7
  let c256_i32 : BitVec 32 := 256#32
  let v9 : BitVec 32 := Scalar.muli c256_i32 v4
  let v10 : BitVec 32 := Scalar.addi v8 v9
  let v172 : Index := Scalar.indexCast v10
  let c0_130 : Index := 0#32
  ![v172.toNat, 0]
def k0_off14 (d0 : Dev nD) : Fin 2 → Nat :=
  let c1024_i32_141 : BitVec 32 := 1024#32
  let c512_i32_13 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v27 : BitVec 32 := Scalar.muli c512_i32_13 v4
  let c256_i32_14 : BitVec 32 := 256#32
  let c1_i32_0 : BitVec 32 := 1#32
  let v3 : BitVec 32 := Scalar.andi v2 c1_i32_0
  let v28 : BitVec 32 := Scalar.muli c256_i32_14 v3
  let v29 : BitVec 32 := Scalar.addi v27 v28
  let v185 : BitVec 32 := Scalar.addi c1024_i32_141 v29
  let v186 : Index := Scalar.indexCast v185
  let c0_142 : Index := 0#32
  ![v186.toNat, 0]
def k0_off15 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v7 : BitVec 32 := Scalar.xori v3 v4
  let v8 : BitVec 32 := Scalar.muli c512_i32 v7
  let c256_i32 : BitVec 32 := 256#32
  let v9 : BitVec 32 := Scalar.muli c256_i32 v4
  let v10 : BitVec 32 := Scalar.addi v8 v9
  let v200 : Index := Scalar.indexCast v10
  let c0_154 : Index := 0#32
  ![v200.toNat, 0]
def k0_off16 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v7 : BitVec 32 := Scalar.xori v3 v4
  let v8 : BitVec 32 := Scalar.muli c512_i32 v7
  let c256_i32 : BitVec 32 := 256#32
  let v9 : BitVec 32 := Scalar.muli c256_i32 v4
  let v10 : BitVec 32 := Scalar.addi v8 v9
  let c0_i32_161 : BitVec 32 := 0#32
  ![v10.toNat, 0]
def k0_dev11 (d0 : Dev nD) : Nat :=
  let c0_i32_160 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_159 : BitVec 32 := 1#32
  let v207 : BitVec 32 := Scalar.muli v6 c1_i32_159
  let v208 : BitVec 32 := Scalar.addi c0_i32_160 v207
  v208.toNat
def k0_off17 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v7 : BitVec 32 := Scalar.xori v3 v4
  let v8 : BitVec 32 := Scalar.muli c512_i32 v7
  let c256_i32 : BitVec 32 := 256#32
  let v9 : BitVec 32 := Scalar.muli c256_i32 v4
  let v10 : BitVec 32 := Scalar.addi v8 v9
  let c128_i32_170 : BitVec 32 := 128#32
  let v221 : BitVec 32 := Scalar.addi v10 c128_i32_170
  let v222 : Index := Scalar.indexCast v221
  let c0_171 : Index := 0#32
  ![v222.toNat, 0]
def k0_off18 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v7 : BitVec 32 := Scalar.xori v3 v4
  let v8 : BitVec 32 := Scalar.muli c512_i32 v7
  let c256_i32 : BitVec 32 := 256#32
  let v9 : BitVec 32 := Scalar.muli c256_i32 v4
  let v10 : BitVec 32 := Scalar.addi v8 v9
  let c128_i32_176 : BitVec 32 := 128#32
  let v230 : BitVec 32 := Scalar.addi v10 c128_i32_176
  let c0_i32_180 : BitVec 32 := 0#32
  ![v230.toNat, 0]
def k0_dev12 (d0 : Dev nD) : Nat :=
  let c0_i32_179 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_178 : BitVec 32 := 1#32
  let v231 : BitVec 32 := Scalar.muli v6 c1_i32_178
  let v232 : BitVec 32 := Scalar.addi c0_i32_179 v231
  v232.toNat
def k0_off19 (d0 : Dev nD) : Fin 2 → Nat :=
  let c1024_i32_189 : BitVec 32 := 1024#32
  let c512_i32_13 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v27 : BitVec 32 := Scalar.muli c512_i32_13 v4
  let c256_i32_14 : BitVec 32 := 256#32
  let c1_i32_0 : BitVec 32 := 1#32
  let v3 : BitVec 32 := Scalar.andi v2 c1_i32_0
  let v28 : BitVec 32 := Scalar.muli c256_i32_14 v3
  let v29 : BitVec 32 := Scalar.addi v27 v28
  let v245 : BitVec 32 := Scalar.addi c1024_i32_189 v29
  let v246 : Index := Scalar.indexCast v245
  let c0_190 : Index := 0#32
  ![v246.toNat, 0]
def k0_off20 (d0 : Dev nD) : Fin 2 → Nat :=
  let c1024_i32_195 : BitVec 32 := 1024#32
  let c512_i32_13 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v27 : BitVec 32 := Scalar.muli c512_i32_13 v4
  let c256_i32_14 : BitVec 32 := 256#32
  let c1_i32_0 : BitVec 32 := 1#32
  let v3 : BitVec 32 := Scalar.andi v2 c1_i32_0
  let v28 : BitVec 32 := Scalar.muli c256_i32_14 v3
  let v29 : BitVec 32 := Scalar.addi v27 v28
  let v254 : BitVec 32 := Scalar.addi c1024_i32_195 v29
  let c0_i32_199 : BitVec 32 := 0#32
  ![v254.toNat, 0]
def k0_dev13 (d0 : Dev nD) : Nat :=
  let c0_i32_198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_197 : BitVec 32 := 1#32
  let v255 : BitVec 32 := Scalar.muli v5 c1_i32_197
  let v256 : BitVec 32 := Scalar.addi c0_i32_198 v255
  v256.toNat
def k0_off21 (d0 : Dev nD) : Fin 2 → Nat :=
  let c1024_i32_208 : BitVec 32 := 1024#32
  let c512_i32_13 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v27 : BitVec 32 := Scalar.muli c512_i32_13 v4
  let c256_i32_14 : BitVec 32 := 256#32
  let c1_i32_0 : BitVec 32 := 1#32
  let v3 : BitVec 32 := Scalar.andi v2 c1_i32_0
  let v28 : BitVec 32 := Scalar.muli c256_i32_14 v3
  let v29 : BitVec 32 := Scalar.addi v27 v28
  let v269 : BitVec 32 := Scalar.addi c1024_i32_208 v29
  let c128_i32_209 : BitVec 32 := 128#32
  let v270 : BitVec 32 := Scalar.addi v269 c128_i32_209
  let v271 : Index := Scalar.indexCast v270
  let c0_210 : Index := 0#32
  ![v271.toNat, 0]
def k0_off22 (d0 : Dev nD) : Fin 2 → Nat :=
  let c1024_i32_216 : BitVec 32 := 1024#32
  let c512_i32_13 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v27 : BitVec 32 := Scalar.muli c512_i32_13 v4
  let c256_i32_14 : BitVec 32 := 256#32
  let c1_i32_0 : BitVec 32 := 1#32
  let v3 : BitVec 32 := Scalar.andi v2 c1_i32_0
  let v28 : BitVec 32 := Scalar.muli c256_i32_14 v3
  let v29 : BitVec 32 := Scalar.addi v27 v28
  let v280 : BitVec 32 := Scalar.addi c1024_i32_216 v29
  let c128_i32_217 : BitVec 32 := 128#32
  let v281 : BitVec 32 := Scalar.addi v280 c128_i32_217
  let c0_i32_221 : BitVec 32 := 0#32
  ![v281.toNat, 0]
def k0_dev14 (d0 : Dev nD) : Nat :=
  let c0_i32_220 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_219 : BitVec 32 := 1#32
  let v282 : BitVec 32 := Scalar.muli v5 c1_i32_219
  let v283 : BitVec 32 := Scalar.addi c0_i32_220 v282
  v283.toNat
def k0_off23 (d0 : Dev nD) : Fin 2 → Nat :=
  let c512_i32 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.andi v2 c1_i32_0
  let c1_i32_1 : BitVec 32 := 1#32
  let v4 : BitVec 32 := Scalar.shrsi v2 c1_i32_1
  let v7 : BitVec 32 := Scalar.xori v3 v4
  let v8 : BitVec 32 := Scalar.muli c512_i32 v7
  let c256_i32 : BitVec 32 := 256#32
  let v9 : BitVec 32 := Scalar.muli c256_i32 v4
  let v10 : BitVec 32 := Scalar.addi v8 v9
  let c0_i32_226 : BitVec 32 := 0#32
  ![v10.toNat, 0]
def k0_dev15 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_224 : BitVec 32 := 1#32
  let v290 : BitVec 32 := Scalar.muli v5 c1_i32_224
  let v291 : BitVec 32 := Scalar.addi c0_i32_225 v290
  v291.toNat
def k0_off24 (d0 : Dev nD) : Fin 2 → Nat :=
  let c1024_i32_229 : BitVec 32 := 1024#32
  let c512_i32_13 : BitVec 32 := 512#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v4 : BitVec 32 := Scalar.shrsi v2 c1_i32_1
  let v27 : BitVec 32 := Scalar.muli c512_i32_13 v4
  let c256_i32_14 : BitVec 32 := 256#32
  let c1_i32_0 : BitVec 32 := 1#32
  let v3 : BitVec 32 := Scalar.andi v2 c1_i32_0
  let v28 : BitVec 32 := Scalar.muli c256_i32_14 v3
  let v29 : BitVec 32 := Scalar.addi v27 v28
  let v299 : BitVec 32 := Scalar.addi c1024_i32_229 v29
  let c0_i32_233 : BitVec 32 := 0#32
  ![v299.toNat, 0]
def k0_dev16 (d0 : Dev nD) : Nat :=
  let c0_i32_232 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_231 : BitVec 32 := 1#32
  let v300 : BitVec 32 := Scalar.muli v6 c1_i32_231
  let v301 : BitVec 32 := Scalar.addi c0_i32_232 v300
  v301.toNat
def k0_dev17 (d0 : Dev nD) : Nat :=
  let c0_i32_243 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_242 : BitVec 32 := 1#32
  let v314 : BitVec 32 := Scalar.muli v5 c1_i32_242
  let v315 : BitVec 32 := Scalar.addi c0_i32_243 v314
  v315.toNat
def k0_dev18 (d0 : Dev nD) : Nat :=
  let c0_i32_256 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_255 : BitVec 32 := 1#32
  let v330 : BitVec 32 := Scalar.muli v6 c1_i32_255
  let v331 : BitVec 32 := Scalar.addi c0_i32_256 v330
  v331.toNat
def k0_dev19 (d0 : Dev nD) : Nat :=
  let c0_i32_269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_2 : BitVec 32 := 1#32
  let v5 : BitVec 32 := Scalar.xori v2 c1_i32_2
  let c1_i32_268 : BitVec 32 := 1#32
  let v346 : BitVec 32 := Scalar.muli v5 c1_i32_268
  let v347 : BitVec 32 := Scalar.addi c0_i32_269 v346
  v347.toNat
def k0_dev20 (d0 : Dev nD) : Nat :=
  let c0_i32_284 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.subi c3_i32 v2
  let c1_i32_283 : BitVec 32 := 1#32
  let v364 : BitVec 32 := Scalar.muli v6 c1_i32_283
  let v365 : BitVec 32 := Scalar.addi c0_i32_284 v364
  v365.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S4x2048x512 : Shape := ⟨3, ![4, 2048, 512]⟩
abbrev S_ : Shape := ⟨0, ![]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S4x2048x512, .f32⟩
  | .hbm, ⟨2, _⟩ => ⟨S_, .f32⟩
  | .hbm, ⟨3, _⟩ => ⟨S2048x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Blocks.lean ====
/-
The four devices and the row blocks of the all-reduce.

Every 2048x512 array is cut into eight blocks of 256 rows. A device trades with two partners: `p1 c`, which
differs in the low bit of the device id, and `p2 c = 3 - c`. The first half of the rows is reduced first over
`p1` and then over `p2`, the second half the other way round. Of each half device `c` comes to own one block
(`aO c` in the first half, `bO c` in the second); before that it collects one partner's share of a second block
(`aS c`, `bS c`), which it passes on to the block's owner. This module says where these blocks start and that
the offsets and the targets the kernel computes from its device id are these.
-/
module

public import proofs.«01_k».proof.Proof.Gen.KernelIdeal.Skeleton
public import proofs.«01_k».proof.Proof.Gen.KernelIdeal.Launch
public import Idealize.ShloMosaic.Lib.Tactic

@[expose] public section

namespace Cert.Butterfly

open Cert.KernelIdeal Cert.KernelIdeal.Gen
open Idealize.ShloMosaic
open Idealize.ShloMosaic.TcCoe

set_option backward.proofsInPublic true in
/-- The partner whose device id differs in the low bit. -/
def p1 (c : Dev nD) : Dev nD := ⟨c.val ^^^ 1, by revert c; decide⟩
set_option backward.proofsInPublic true in
/-- The partner at the mirrored device id. -/
def p2 (c : Dev nD) : Dev nD := ⟨3 - c.val, by revert c; decide⟩

/-- The first partner's first partner is the device itself. -/
@[simp] theorem p1_p1 (c : Dev nD) : p1 (p1 c) = c := by revert c; decide
/-- The second partner's second partner is the device itself. -/
@[simp] theorem p2_p2 (c : Dev nD) : p2 (p2 c) = c := by revert c; decide
/-- The two partners differ. -/
theorem p1_ne_p2 (c : Dev nD) : p1 c ≠ p2 c := by revert c; decide

/-- Where the block of the first half that `c` owns starts, -/
def aO (c : Dev nD) : ℕ := ![0, 512, 768, 256] c
/-- … the block of the first half it sums up for the owner, `p2 c`, -/
def aS (c : Dev nD) : ℕ := ![256, 768, 512, 0] c
/-- … the block of the second half that `c` owns, -/
def bO (c : Dev nD) : ℕ := ![1024, 1280, 1536, 1792] c
/-- … the block of the second half it sums up for the owner, `p1 c`. -/
def bS (c : Dev nD) : ℕ := ![1280, 1024, 1792, 1536] c

/-- What the second partner owns of the first half is what the device sends it. -/
@[simp] theorem aO_p2 (c : Dev nD) : aO (p2 c) = aS c := by revert c; decide
/-- What the second partner sends of the first half is what the device owns. -/
@[simp] theorem aS_p2 (c : Dev nD) : aS (p2 c) = aO c := by revert c; decide
/-- What the first partner owns of the second half is what the device sends it. -/
@[simp] theorem bO_p1 (c : Dev nD) : bO (p1 c) = bS c := by revert c; decide
/-- What the first partner sends of the second half is what the device owns. -/
@[simp] theorem bS_p1 (c : Dev nD) : bS (p1 c) = bO c := by revert c; decide

/-- The printed row offset number 1 is `aS (p1 c)`. -/
theorem off1 (c : Dev nD) : k0_off1 c = ![aS (p1 c), 0] := by revert c; decide
/-- The printed row offset number 2 is `bS (p2 c)`. -/
theorem off2 (c : Dev nD) : k0_off2 c = ![bS (p2 c), 0] := by revert c; decide
/-- The printed row offset number 3 is `aO (p1 c)`. -/
theorem off3 (c : Dev nD) : k0_off3 c = ![aO (p1 c), 0] := by revert c; decide
/-- The printed row offset number 4 is `bO (p2 c)`. -/
theorem off4 (c : Dev nD) : k0_off4 c = ![bO (p2 c), 0] := by revert c; decide
/-- The printed row offset number 5 is `aS c`. -/
theorem off5 (c : Dev nD) : k0_off5 c = ![aS c, 0] := by revert c; decide
/-- The printed row offset number 6 is `aS c`. -/
theorem off6 (c : Dev nD) : k0_off6 c = ![aS c, 0] := by revert c; decide
/-- The printed row offset number 7 is `aS c + 128`. -/
theorem off7 (c : Dev nD) : k0_off7 c = ![aS c + 128, 0] := by revert c; decide
/-- The printed row offset number 8 is `aS c + 128`. -/
theorem off8 (c : Dev nD) : k0_off8 c = ![aS c + 128, 0] := by revert c; decide
/-- The printed row offset number 9 is `bS c`. -/
theorem off9 (c : Dev nD) : k0_off9 c = ![bS c, 0] := by revert c; decide
/-- The printed row offset number 10 is `bS c`. -/
theorem off10 (c : Dev nD) : k0_off10 c = ![bS c, 0] := by revert c; decide
/-- The printed row offset number 11 is `bS c + 128`. -/
theorem off11 (c : Dev nD) : k0_off11 c = ![bS c + 128, 0] := by revert c; decide
/-- The printed row offset number 12 is `bS c + 128`. -/
theorem off12 (c : Dev nD) : k0_off12 c = ![bS c + 128, 0] := by revert c; decide
/-- The printed row offset number 13 is `aO c`. -/
theorem off13 (c : Dev nD) : k0_off13 c = ![aO c, 0] := by revert c; decide
/-- The printed row offset number 14 is `bO c`. -/
theorem off14 (c : Dev nD) : k0_off14 c = ![bO c, 0] := by revert c; decide
/-- The printed row offset number 15 is `aO c`. -/
theorem off15 (c : Dev nD) : k0_off15 c = ![aO c, 0] := by revert c; decide
/-- The printed row offset number 16 is `aO c`. -/
theorem off16 (c : Dev nD) : k0_off16 c = ![aO c, 0] := by revert c; decide
/-- The printed row offset number 17 is `aO c + 128`. -/
theorem off17 (c : Dev nD) : k0_off17 c = ![aO c + 128, 0] := by revert c; decide
/-- The printed row offset number 18 is `aO c + 128`. -/
theorem off18 (c : Dev nD) : k0_off18 c = ![aO c + 128, 0] := by revert c; decide
/-- The printed row offset number 19 is `bO c`. -/
theorem off19 (c : Dev nD) : k0_off19 c = ![bO c, 0] := by revert c; decide
/-- The printed row offset number 20 is `bO c`. -/
theorem off20 (c : Dev nD) : k0_off20 c = ![bO c, 0] := by revert c; decide
/-- The printed row offset number 21 is `bO c + 128`. -/
theorem off21 (c : Dev nD) : k0_off21 c = ![bO c + 128, 0] := by revert c; decide
/-- The printed row offset number 22 is `bO c + 128`. -/
theorem off22 (c : Dev nD) : k0_off22 c = ![bO c + 128, 0] := by revert c; decide
/-- The printed row offset number 23 is `aO c`. -/
theorem off23 (c : Dev nD) : k0_off23 c = ![aO c, 0] := by revert c; decide
/-- The printed row offset number 24 is `bO c`. -/
theorem off24 (c : Dev nD) : k0_off24 c = ![bO c, 0] := by revert c; decide

/-- The printed device id number 1 is `p1 c`. -/
theorem dev1 (c : Dev nD) : (⟨k0_dev1 c, k0_dev1_lt c⟩ : Dev nD) = p1 c := by revert c; decide
/-- The printed device id number 2 is `p2 c`. -/
theorem dev2 (c : Dev nD) : (⟨k0_dev2 c, k0_dev2_lt c⟩ : Dev nD) = p2 c := by revert c; decide
/-- The printed device id number 3 is `p1 c`. -/
theorem dev3 (c : Dev nD) : (⟨k0_dev3 c, k0_dev3_lt c⟩ : Dev nD) = p1 c := by revert c; decide
/-- The printed device id number 4 is `p2 c`. -/
theorem dev4 (c : Dev nD) : (⟨k0_dev4 c, k0_dev4_lt c⟩ : Dev nD) = p2 c := by revert c; decide
/-- The printed device id number 5 is `p1 c`. -/
theorem dev5 (c : Dev nD) : (⟨k0_dev5 c, k0_dev5_lt c⟩ : Dev nD) = p1 c := by revert c; decide
/-- The printed device id number 6 is `p2 c`. -/
theorem dev6 (c : Dev nD) : (⟨k0_dev6 c, k0_dev6_lt c⟩ : Dev nD) = p2 c := by revert c; decide
/-- The printed device id number 7 is `p2 c`. -/
theorem dev7 (c : Dev nD) : (⟨k0_dev7 c, k0_dev7_lt c⟩ : Dev nD) = p2 c := by revert c; decide
/-- The printed device id number 8 is `p2 c`. -/
theorem dev8 (c : Dev nD) : (⟨k0_dev8 c, k0_dev8_lt c⟩ : Dev nD) = p2 c := by revert c; decide
/-- The printed device id number 9 is `p1 c`. -/
theorem dev9 (c : Dev nD) : (⟨k0_dev9 c, k0_dev9_lt c⟩ : Dev nD) = p1 c := by revert c; decide
/-- The printed device id number 10 is `p1 c`. -/
theorem dev10 (c : Dev nD) : (⟨k0_dev10 c, k0_dev10_lt c⟩ : Dev nD) = p1 c := by revert c; decide
/-- The printed device id number 11 is `p2 c`. -/
theorem dev11 (c : Dev nD) : (⟨k0_dev11 c, k0_dev11_lt c⟩ : Dev nD) = p2 c := by revert c; decide
/-- The printed device id number 12 is `p2 c`. -/
theorem dev12 (c : Dev nD) : (⟨k0_dev12 c, k0_dev12_lt c⟩ : Dev nD) = p2 c := by revert c; decide
/-- The printed device id number 13 is `p1 c`. -/
theorem dev13 (c : Dev nD) : (⟨k0_dev13 c, k0_dev13_lt c⟩ : Dev nD) = p1 c := by revert c; decide
/-- The printed device id number 14 is `p1 c`. -/
theorem dev14 (c : Dev nD) : (⟨k0_dev14 c, k0_dev14_lt c⟩ : Dev nD) = p1 c := by revert c; decide
/-- The printed device id number 15 is `p1 c`. -/
theorem dev15 (c : Dev nD) : (⟨k0_dev15 c, k0_dev15_lt c⟩ : Dev nD) = p1 c := by revert c; decide
/-- The printed device id number 16 is `p2 c`. -/
theorem dev16 (c : Dev nD) : (⟨k0_dev16 c, k0_dev16_lt c⟩ : Dev nD) = p2 c := by revert c; decide
/-- The printed device id number 17 is `p1 c`. -/
theorem dev17 (c : Dev nD) : (⟨k0_dev17 c, k0_dev17_lt c⟩ : Dev nD) = p1 c := by revert c; decide
/-- The printed device id number 18 is `p2 c`. -/
theorem dev18 (c : Dev nD) : (⟨k0_dev18 c, k0_dev18_lt c⟩ : Dev nD) = p2 c := by revert c; decide
/-- The printed device id number 19 is `p1 c`. -/
theorem dev19 (c : Dev nD) : (⟨k0_dev19 c, k0_dev19_lt c⟩ : Dev nD) = p1 c := by revert c; decide
/-- The printed device id number 20 is `p2 c`. -/
theorem dev20 (c : Dev nD) : (⟨k0_dev20 c, k0_dev20_lt c⟩ : Dev nD) = p2 c := by revert c; decide

end Cert.Butterfly

end
-- ==== Proof.Rows.lean ====
/-
Ownership of a band of rows of a two-dimensional float buffer.

`At M d a n q G s` is the share `q` of rows `a … a+n-1` of device `d`'s buffer under the memref `M`, row `i`,
column `j` holding `G (s + i) j`. A band splits into adjacent bands and its share into halves; loads, stores
and transfers of a rectangle of whole rows act on the band with the same rows.
-/
module

public import proofs.«01_k».proof.Proof.Blocks
public import Idealize.ShloMosaic.Lib.Pipeline.Launch
public import Idealize.ShloMosaic.Lib.Pipeline.Kit

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the pipeline's own part and the part of the kernel's semaphores. -/
abbrev UB : Type := URounds (GSem nD τ sig) Bool
/-- The ghost state: the rounds of the pipeline and those of the kernel. -/
abbrev UU : Type := UR sig nD τ × UB

local notation "𝕄" => MT nD τ sig Unit (Elt F) ℕ UU ℕ

/-- The indices of rows `a … a+n-1` of an array of `R` rows. -/
def rows (R a n : ℕ) : Finset (Shape.Idx ⟨2, ![R, 512]⟩) :=
  Finset.univ.filter fun i => a ≤ (i 0 : ℕ) ∧ (i 0 : ℕ) < a + n

/-- Membership in a range of rows. -/
theorem mem_rows {R a n : ℕ} {i : Shape.Idx ⟨2, ![R, 512]⟩} : i ∈ rows R a n ↔ a ≤ (i 0 : ℕ) ∧ (i 0 : ℕ) < a + n := by
  unfold rows; rw [Finset.mem_filter]; exact ⟨fun h => h.2, fun h => ⟨Finset.mem_univ _, h⟩⟩

/-- A band of rows is the two bands it is cut into, which do not meet. -/
theorem rows_add (R a n k : ℕ) : rows R a (n + k) = rows R a n ∪ rows R (a + n) k := by
  ext i; rw [Finset.mem_union, mem_rows, mem_rows, mem_rows]; omega
/-- Neighbouring ranges of rows are disjoint. -/
theorem rows_disjoint (R a n k : ℕ) : Disjoint (rows R a n) (rows R (a + n) k) := by
  rw [Finset.disjoint_left]; intro i h h'; rw [mem_rows] at h h'; omega
/-- All rows. -/
theorem rows_all (R : ℕ) : rows R 0 R = Finset.univ := by
  ext i; rw [mem_rows]
  exact ⟨fun _ => Finset.mem_univ _, fun _ => ⟨Nat.zero_le _, by rw [Nat.zero_add]; exact (i 0).isLt⟩⟩

/-- The rectangle of `n` whole rows from row `a` covers the band. -/
theorem unit_rows {R n a : ℕ} {off : Fin 2 → ℕ} (ho : off = ![a, 0]) (inb) :
    (Rect.unit (s := ⟨2, ![R, 512]⟩) off ![n, 512] inb).set = rows R a n := by
  subst ho
  ext i; rw [Rect.mem_set_unit, mem_rows]
  constructor
  · intro h; exact h 0
  · intro h b
    match b with
    | ⟨0, _⟩ => exact h
    | ⟨1, _⟩ => exact ⟨Nat.zero_le _, by have := (i 1).isLt; simpa using this⟩

/-- `n` rows of the table `G`, from its row `a`. -/
def tile (n : ℕ) (G : ℕ → ℕ → Elt F .f32) (a : ℕ) : Shape.Idx ⟨2, ![n, 512]⟩ → Elt F .f32 :=
  fun i => G (a + (i 0 : ℕ)) (i 1 : ℕ)

/-- The rows `a … a+n-1` of `d`'s buffer under `M`, at share `q`, row `i` holding row `s + i` of `G`. -/
def At {R : ℕ} (M : Memref sig .tc .vmem ⟨2, ![R, 512]⟩ .f32) (d : Dev nD) (a n : ℕ) (q : PosShare TreeShare)
    (G : ℕ → ℕ → Elt F .f32) (s : ℕ) : sProp 𝕄 :=
  iprop(∃ f : Buf (Elt F) (M.view.loc (d : Thread nD τ)),
    ⌜∀ i ∈ rows R a n, M.view.read (Elt F) f i = tile R G s i⌝ ∗ (M.view.loc (d : Thread nD τ) ↦[M.view.setOn (rows R a n)]{q} f))

/-- The same rows, whole, holding anything. -/
def Free {R : ℕ} (M : Memref sig .tc .vmem ⟨2, ![R, 512]⟩ .f32) (d : Dev nD) (a n : ℕ) : sProp 𝕄 :=
  iprop(∃ G : ℕ → ℕ → Elt F .f32, At M d a n fullShare G 0)

/-- Rows can be kept in an invariant. -/
instance At_storable {R : ℕ} (M : Memref sig .tc .vmem ⟨2, ![R, 512]⟩ .f32) (d : Dev nD) (a n : ℕ) (q : PosShare TreeShare)
    (G : ℕ → ℕ → Elt F .f32) (s : ℕ) : BI.Storable (upEmb : UEmb _ 𝕄) (At M d a n q G s) := by
  unfold At; infer_instance
/-- Free rows can be kept in an invariant. -/
instance Free_storable {R : ℕ} (M : Memref sig .tc .vmem ⟨2, ![R, 512]⟩ .f32) (d : Dev nD) (a n : ℕ) :
    BI.Storable (upEmb : UEmb _ 𝕄) (Free (F := F) M d a n) := by
  unfold Free; infer_instance

section Bands
variable {R : ℕ} (M : Memref sig .tc .vmem ⟨2, ![R, 512]⟩ .f32) (d : Dev nD) (q : PosShare TreeShare)
  (G : ℕ → ℕ → Elt F .f32) (s : ℕ)

/-- A union's elements are those of both parts. -/
theorem setOn_union (I J : Finset (Shape.Idx ⟨2, ![R, 512]⟩)) : M.view.setOn (I ∪ J) = M.view.setOn I ∪ M.view.setOn J :=
  Finset.map_union _ _
/-- Disjoint parts have disjoint elements. -/
theorem setOn_disjoint {I J : Finset (Shape.Idx ⟨2, ![R, 512]⟩)} (h : Disjoint I J) : Disjoint (M.view.setOn I) (M.view.setOn J) :=
  (Finset.disjoint_map _).mpr h

/-- A band falls apart into two adjacent ones. -/
theorem At_split (a n k : ℕ) : At M d a (n + k) q G s ⊢ iprop(At M d a n q G s ∗ At M d (a + n) k q G s) := by
  unfold At
  iintro ⟨%f, %hf, H⟩
  rw [rows_add, setOn_union]
  icases (pointsTo_union (setOn_disjoint M (rows_disjoint R a n k))).1 $$ H with ⟨H1, H2⟩
  isplitl [H1]
  · iexists f; isplitr
    · ipureintro; intro i hi; exact hf i (by rw [rows_add]; exact Finset.mem_union_left _ hi)
    · iexact H1
  · iexists f; isplitr
    · ipureintro; intro i hi; exact hf i (by rw [rows_add]; exact Finset.mem_union_right _ hi)
    · iexact H2

/-- Two adjacent bands make one. -/
theorem At_join (a n k : ℕ) : iprop(At M d a n q G s ∗ At M d (a + n) k q G s) ⊢ At M d a (n + k) q G s := by
  unfold At
  iintro ⟨⟨%f, %hf, H1⟩, ⟨%g, %hg, H2⟩⟩
  have hD := setOn_disjoint M (rows_disjoint R a n k)
  ihave H := (pointsTo_join (ℓ := M.view.loc (d : Thread nD τ)) hD) $$ [H1 H2]
  · isplitl [H1] <;> iassumption
  iexists ((M.view.setOn (rows R (a + n) k)).piecewise g f)
  isplitr
  · ipureintro; intro i hi
    rw [rows_add] at hi
    rcases Finset.mem_union.mp hi with h | h
    · rw [← hf i h, View.read_apply, View.read_apply, Finset.piecewise_eq_of_notMem]
      exact fun h' => Finset.disjoint_left.mp hD (M.view.mem_setOn.mpr h) h'
    · rw [← hg i h, View.read_apply, View.read_apply, Finset.piecewise_eq_of_mem]
      exact M.view.mem_setOn.mpr h
  · rw [rows_add, setOn_union]; iexact H

/-- The share of a band falls apart into its halves, -/
theorem At_halve (a n : ℕ) : At M d a n q G s ⊢ iprop(At M d a n q.left G s ∗ At M d a n q.right G s) := by
  unfold At
  iintro ⟨%f, %hf, H⟩
  icases (pointsTo_share (PosShare.mem_left_op_right q)).1 $$ H with ⟨H1, H2⟩
  isplitl [H1]
  · iexists f; isplitr; · ipureintro; exact hf
    iexact H1
  · iexists f; isplitr; · ipureintro; exact hf
    iexact H2

/-- … and the halves make it whole. -/
theorem At_unhalve (a n : ℕ) : iprop(At M d a n q.left G s ∗ At M d a n q.right G s) ⊢ At M d a n q G s := by
  unfold At
  iintro ⟨⟨%f, %hf, H1⟩, ⟨%g, %hg, H2⟩⟩
  have hfg : ∀ i ∈ M.view.setOn (rows R a n), g i = f i := by
    intro i hi
    obtain ⟨x, hx, rfl⟩ := Finset.mem_map.mp hi
    have h := (hf x hx).trans (hg x hx).symm
    rw [View.read_apply, View.read_apply] at h
    exact ((cast_bijective (congrArg (Elt F) M.view.elt_eq)).1 h).symm
  ihave H2' := (Entails.of_eq (pointsTo_congr (ℓ := M.view.loc (d : Thread nD τ)) (q := q.right) hfg)) $$ H2
  iexists f; isplitr; · ipureintro; exact hf
  iapply (pointsTo_share (PosShare.mem_left_op_right q)).2
  isplitl [H1] <;> iassumption

/-- Rows holding the same under another description. -/
theorem At_congr {a n : ℕ} {G' : ℕ → ℕ → Elt F .f32} {s' : ℕ}
    (h : ∀ i, a ≤ i → i < a + n → ∀ j, G (s + i) j = G' (s' + i) j) : At M d a n q G s = At M d a n q G' s' := by
  have : ∀ i ∈ rows R a n, tile R G s i = tile R G' s' i := fun i hi => by
    rw [mem_rows] at hi; exact h _ hi.1 hi.2 _
  unfold At
  congr 1; funext f; congr 2
  exact propext ⟨fun hf i hi => (hf i hi).trans (this i hi), fun hf i hi => (hf i hi).trans (this i hi).symm⟩

/-- An array as a table: outside the array it repeats itself. -/
def tab {n : ℕ} (hn : 0 < n) (v : Shape.Idx ⟨2, ![n, 512]⟩ → Elt F .f32) : ℕ → ℕ → Elt F .f32 :=
  fun r k => v (fun a => match a with
    | ⟨0, _⟩ => ⟨r % n, Nat.mod_lt _ hn⟩
    | ⟨1, _⟩ => ⟨k % 512, Nat.mod_lt _ (by decide)⟩)

omit [FloatOps F] in
/-- An array read as a table and cut out again is the array. -/
theorem tile_tab {n : ℕ} (hn : 0 < n) (v : Shape.Idx ⟨2, ![n, 512]⟩ → Elt F .f32) : tile n (tab hn v) 0 = v := by
  funext i; unfold tile tab
  congr 1; funext a
  match a with
  | ⟨0, _⟩ => exact Fin.ext (by show (0 + (i 0 : ℕ)) % n = _; rw [Nat.zero_add]; exact Nat.mod_eq_of_lt (i 0).isLt)
  | ⟨1, _⟩ => exact Fin.ext (Nat.mod_eq_of_lt (i 1).isLt)

/-- A band whose contents nobody knows. -/
theorem At_free (a n : ℕ) : At M d a n fullShare G s ⊢ Free M d a n := by
  unfold Free
  iintro H
  iexists (fun r k => G (s + r) k)
  rw [At_congr M d fullShare (fun r k => G (s + r) k) 0 (G' := G) (s' := s) (fun i _ _ j => by rw [Nat.zero_add])]
  iexact H

/-- A whole buffer is all its rows. -/
theorem At_whole (hR : 0 < R) (f : Buf (Elt F) (M.view.loc (d : Thread nD τ))) (hf : M.view.read (Elt F) f = tile R G s) :
    (M.view.loc (d : Thread nD τ) ↦[M.view.set]{q} f) ⊢ At M d 0 R q G s := by
  unfold At
  rw [rows_all]
  iintro H
  iexists f; isplitr; · ipureintro; intro i _; rw [hf]
  iexact H

/-- All rows of a memref are its contents. -/
theorem whole_At : At M d 0 R q G s
    ⊢ iprop(∃ f : Buf (Elt F) (M.view.loc (d : Thread nD τ)), ⌜M.view.read (Elt F) f = tile R G s⌝ ∗ (M.view.loc (d : Thread nD τ) ↦[M.view.set]{q} f)) := by
  unfold At
  rw [rows_all]
  iintro ⟨%f, %hf, H⟩
  iexists f; isplitr; · ipureintro; funext i; exact hf i (Finset.mem_univ _)
  iexact H

end Bands

section Rects
variable {R n a : ℕ} {off : Fin 2 → ℕ}

/-- Reading a rectangle of whole rows of a band gives the rows' tile. -/
theorem read_rect (M : Memref sig .tc .vmem ⟨2, ![R, 512]⟩ .f32) (d : Dev nD) (G : ℕ → ℕ → Elt F .f32) (s : ℕ)
    (f : Buf (Elt F) (M.view.loc (d : Thread nD τ))) (hf : ∀ i ∈ rows R a n, M.view.read (Elt F) f i = tile R G s i)
    (ho : off = ![a, 0]) (inb) :
    (M.view.slice (Rect.unit (s := ⟨2, ![R, 512]⟩) off ![n, 512] inb)).read (Elt F) f = tile n G (s + a) := by
  funext x
  have hx : (Rect.unit (s := ⟨2, ![R, 512]⟩) off ![n, 512] inb).emb x ∈ rows R a n := by
    rw [← unit_rows ho inb]; exact LoadRect.idx_mem _ x
  have h := hf _ hx
  refine (show _ = M.view.read (Elt F) f ((Rect.unit (s := ⟨2, ![R, 512]⟩) off ![n, 512] inb).emb x) from rfl).trans (h.trans ?_)
  subst ho
  unfold tile
  have h0 : (((Rect.unit (s := ⟨2, ![R, 512]⟩) ![a, 0] ![n, 512] inb).emb x 0 : Fin _) : ℕ) = a + (x 0 : ℕ) := by
    rw [Rect.emb_apply]; show a + 1 * (x 0 : ℕ) = _; rw [Nat.one_mul]
  have h1 : (((Rect.unit (s := ⟨2, ![R, 512]⟩) ![a, 0] ![n, 512] inb).emb x 1 : Fin _) : ℕ) = (x 1 : ℕ) := by
    rw [Rect.emb_apply]; show 0 + 1 * (x 1 : ℕ) = _; omega
  rw [h0, h1, Nat.add_assoc]

/-- The same band, seen through the memref of the rectangle. -/
theorem At_view (M : Memref sig .tc .vmem ⟨2, ![R, 512]⟩ .f32) (d : Dev nD) (q : PosShare TreeShare) (G : ℕ → ℕ → Elt F .f32) (s : ℕ)
    (ho : off = ![a, 0]) (inb) :
    At M d a n q G s = iprop(∃ f : Buf (Elt F) (M.view.loc (d : Thread nD τ)),
      ⌜(M.view.slice (Rect.unit (s := ⟨2, ![R, 512]⟩) off ![n, 512] inb)).read (Elt F) f = tile n G (s + a)⌝
      ∗ (M.view.loc (d : Thread nD τ) ↦[(M.view.slice (Rect.unit (s := ⟨2, ![R, 512]⟩) off ![n, 512] inb)).set]{q} f)) := by
  unfold At
  rw [View.set_slice, unit_rows ho inb]
  congr 1; funext f; congr 2
  refine propext ⟨fun hf => read_rect M d G s f hf ho inb, fun hf i hi => ?_⟩
  rw [← unit_rows ho inb] at hi
  obtain ⟨x, rfl⟩ := LoadRect.exists_idx_of_mem _ hi
  have h := congrFun hf x
  refine (show _ = (M.view.slice (Rect.unit (s := ⟨2, ![R, 512]⟩) off ![n, 512] inb)).read (Elt F) f x from rfl).trans (h.trans ?_)
  subst ho
  unfold tile
  show G (s + a + (x 0 : ℕ)) (x 1 : ℕ) = G (s + (a + 1 * (x 0 : ℕ))) (0 + 1 * (x 1 : ℕ))
  rw [Nat.one_mul, Nat.one_mul, Nat.zero_add, Nat.add_assoc]

/-- … which owns the tile. -/
theorem At_owns (M : Memref sig .tc .vmem ⟨2, ![R, 512]⟩ .f32) (d : Dev nD) (q : PosShare TreeShare) (G : ℕ → ℕ → Elt F .f32) (s : ℕ)
    (ho : off = ![a, 0]) (inb h) :
    At M d a n q G s = owns (d : Thread nD τ) (M.slice (Rect.unit (s := ⟨2, ![R, 512]⟩) off ![n, 512] inb) h) q (tile n G (s + a)) :=
  At_view M d q G s ho inb

end Rects

end Cert.Butterfly

end
-- ==== Proof.Cells.lean ====
/-
The semaphores of the all-reduce and what each of them hands over.

Copy `j` of the kernel, `j = 0 … 17`, goes from device `c` to `tgt j c`; it counts on `c`'s send semaphore `j`
and on the target's receive semaphore `j`. Every semaphore is used once. A barrier semaphore waits for two
signals, one from each partner; with its signal a partner lends the buffers into which the waiting device
will write.
-/
module

public import proofs.«01_k».proof.Proof.Rows

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The pipeline's ghost state in the whole. -/
abbrev EP : Emb (UR sig nD τ) (MT nD τ sig Unit (Elt F) ℕ UU ℕ) := embL
/-- The rounds' ghost state in the whole. -/
abbrev ER : Emb UB (MT nD τ sig Unit (Elt F) ℕ UU ℕ) := embR

/-! ## The buffers -/

/-- The input, as staged. -/
abbrev xM : Memref sig .tc .vmem S2048x512 .f32 := Memref.whole cc0_stg0_0
/-- The output, as staged. -/
abbrev oM : Memref sig .tc .vmem S2048x512 .f32 := Memref.whole cc0_stg1_0
/-- The landing buffer of copy 0. -/
abbrev sM0 : Memref sig .tc .vmem S256x512 .f32 := Memref.whole cc0_scratch0
/-- The landing buffer of copy 1. -/
abbrev sM1 : Memref sig .tc .vmem S256x512 .f32 := Memref.whole cc0_scratch1
/-- The landing buffer of copy 2. -/
abbrev sM2 : Memref sig .tc .vmem S256x512 .f32 := Memref.whole cc0_scratch2
/-- The landing buffer of copy 3. -/
abbrev sM3 : Memref sig .tc .vmem S256x512 .f32 := Memref.whole cc0_scratch3
/-- The landing buffer of the second exchange of the first half. -/
abbrev sM4 : Memref sig .tc .vmem S256x512 .f32 := Memref.whole cc0_scratch4
/-- The landing buffer of the second exchange of the second half. -/
abbrev sM5 : Memref sig .tc .vmem S256x512 .f32 := Memref.whole cc0_scratch5

/-! ## The values -/

section Values
variable (X : Dev nD → ℕ → ℕ → Elt F .f32)

/-- The entrywise sum of two tables. -/
def plus (G H : ℕ → ℕ → Elt F .f32) : ℕ → ℕ → Elt F .f32 := fun r k => FloatOps.addf (G r k) (H r k)

/-- After the first exchange of the first half: own input and `p1`'s, -/
def S1A (c : Dev nD) : ℕ → ℕ → Elt F .f32 := plus (X c) (X (p1 c))
/-- … of the second half: own input and `p2`'s; -/
def S1B (c : Dev nD) : ℕ → ℕ → Elt F .f32 := plus (X c) (X (p2 c))
/-- after the second exchange of the first half, all four inputs, summed in the order of `c`; -/
def FA (c : Dev nD) : ℕ → ℕ → Elt F .f32 := plus (S1A X c) (S1A X (p2 c))
/-- … of the second half. -/
def FB (c : Dev nD) : ℕ → ℕ → Elt F .f32 := plus (S1B X c) (S1B X (p1 c))

/-- The device that owns block `b`. -/
def owner (b : ℕ) : Dev nD := match b with
  | 0 => 0 | 1 => 3 | 2 => 1 | 3 => 2 | 4 => 0 | 5 => 1 | 6 => 2 | _ => 3

/-- The result: every block as its owner sums it up. -/
def FIN : ℕ → ℕ → Elt F .f32 := fun r k =>
  if r < 1024 then FA X (owner (r / 256)) r k else FB X (owner (r / 256)) r k

/-- There are four devices. -/
theorem dev_cases (c : Dev nD) : c = 0 ∨ c = 1 ∨ c = 2 ∨ c = 3 := by revert c; decide

/-- In a device's own block of the first half the result is what the device sums up. -/
theorem FIN_aO (c : Dev nD) {r : ℕ} (h : aO c ≤ r) (h' : r < aO c + 256) (k : ℕ) : FIN X r k = FA X c r k := by
  have key : r < 1024 ∧ owner (r / 256) = c := by
    rcases dev_cases c with rfl | rfl | rfl | rfl
    · have h : 0 ≤ r := h; have h' : r < 0 + 256 := h'
      rw [show r / 256 = 0 by omega]; exact ⟨by omega, rfl⟩
    · have h : 512 ≤ r := h; have h' : r < 512 + 256 := h'
      rw [show r / 256 = 2 by omega]; exact ⟨by omega, rfl⟩
    · have h : 768 ≤ r := h; have h' : r < 768 + 256 := h'
      rw [show r / 256 = 3 by omega]; exact ⟨by omega, rfl⟩
    · have h : 256 ≤ r := h; have h' : r < 256 + 256 := h'
      rw [show r / 256 = 1 by omega]; exact ⟨by omega, rfl⟩
  unfold FIN; rw [if_pos key.1, key.2]

/-- In a device's own block of the second half the result is what the device sums up. -/
theorem FIN_bO (c : Dev nD) {r : ℕ} (h : bO c ≤ r) (h' : r < bO c + 256) (k : ℕ) : FIN X r k = FB X c r k := by
  have key : ¬ r < 1024 ∧ owner (r / 256) = c := by
    rcases dev_cases c with rfl | rfl | rfl | rfl
    · have h : 1024 ≤ r := h; have h' : r < 1024 + 256 := h'
      rw [show r / 256 = 4 by omega]; exact ⟨by omega, rfl⟩
    · have h : 1280 ≤ r := h; have h' : r < 1280 + 256 := h'
      rw [show r / 256 = 5 by omega]; exact ⟨by omega, rfl⟩
    · have h : 1536 ≤ r := h; have h' : r < 1536 + 256 := h'
      rw [show r / 256 = 6 by omega]; exact ⟨by omega, rfl⟩
    · have h : 1792 ≤ r := h; have h' : r < 1792 + 256 := h'
      rw [show r / 256 = 7 by omega]; exact ⟨by omega, rfl⟩
  unfold FIN; rw [if_neg key.1, key.2]

end Values

/-! ## The cells -/

/-- The device copy `j` of `c` goes to. -/
def tgt (j : Fin 18) (c : Dev nD) : Dev nD :=
  if j = 0 ∨ j = 1 ∨ j = 6 ∨ j = 7 ∨ j = 10 ∨ j = 11 ∨ j = 12 ∨ j = 14 ∨ j = 16 then p1 c else p2 c
/-- The sender and the target of a copy are each other's targets. -/
theorem tgt_tgt (j : Fin 18) (c : Dev nD) : tgt j (tgt j c) = c := by revert j c; decide

/-- The barrier semaphore. -/
abbrev barS : Sem sig := (SemArray.scalar (sig.barrier 0 rfl) : Sems sig S_).sem

/-- The kernel's semaphores: the barrier (`none`), the send semaphore of copy `j` (`(false, j)`), its receive
    semaphore (`(true, j)`). -/
abbrev Key : Type := Option (Bool × Fin 18)
/-- The semaphore on which copy `j`'s send is counted. -/
def sendS (j : Fin 18) : DmaSem sig := ⟨2 + j.val, by have := j.isLt; show 2 + j.val < 38; omega⟩
/-- The semaphore on which copy `j`'s landing is counted. -/
def recvS (j : Fin 18) : DmaSem sig := ⟨20 + j.val, by have := j.isLt; show 20 + j.val < 38; omega⟩
/-- The kernel's own semaphores. -/
def osem : Bool × Fin 18 → SemLoc sig
  | (false, j) => .dma (sendS j)
  | (true, j) => .dma (recvS j)
/-- The semaphore of a key. -/
def csem : Key → SemLoc sig
  | none => .reg barS
  | some k => osem k
/-- The cell of a key on device `c`. -/
abbrev cell (c : Dev nD) (k : Key) : GSem nD τ sig := ((c : Thread nD τ), csem k)

/-- Which of the kernel's semaphores a semaphore is. -/
def dec : SemLoc sig → Option Key
  | .reg s => if s = barS then some none else none
  | .dma q => if h : 2 ≤ q.val ∧ q.val < 20 then some (some (false, ⟨q.val - 2, by omega⟩))
      else if h : 20 ≤ q.val ∧ q.val < 38 then some (some (true, ⟨q.val - 20, by omega⟩)) else none

/-- A semaphore is read back as its key. -/
theorem dec_csem (k : Key) : dec (csem k) = some k := by
  match k with
  | none => show (if barS = barS then some none else none) = some none; exact if_pos rfl
  | some (false, j) =>
    have := j.isLt
    show dec (.dma (sendS j)) = _
    unfold dec; dsimp only [sendS]
    rw [dif_pos (by omega)]; congr 3; exact Fin.ext (by show 2 + j.val - 2 = j.val; omega)
  | some (true, j) =>
    have := j.isLt
    show dec (.dma (recvS j)) = _
    unfold dec; dsimp only [recvS]
    rw [dif_neg (by omega), dif_pos (by omega)]; congr 3; exact Fin.ext (by show 20 + j.val - 20 = j.val; omega)

/-- Keys have different semaphores. -/
theorem csem_inj {k k' : Key} (h : csem k = csem k') : k = k' := by
  have := congrArg dec h; rw [dec_csem, dec_csem] at this; exact Option.some.inj this
/-- Keys and devices have different cells. -/
theorem cell_inj {c c' : Dev nD} {k k' : Key} (h : cell c k = cell c' k') : c = c' ∧ k = k' :=
  ⟨congrArg (fun g : GSem nD τ sig => g.1.1) h, csem_inj (congrArg Prod.snd h)⟩

/-- What a copy into a buffer of shape `s` counts: the same for every buffer. -/
def cr (s : Shape) : ℕ := sig.dmaCredit .tc (Kind.table .tc .vmem) (sM0 : Memref sig .tc .vmem S256x512 .f32).view.buf s .f32
/-- A copy's credit is set by its shape. -/
theorem credit_buf (b : Fin (sig.nBuf (Kind.table .tc .vmem))) (s : Shape) : sig.dmaCredit .tc (Kind.table .tc .vmem) b s .f32 = cr s := rfl
/-- So is the credit of a view. -/
theorem credit_view {s : Shape} (v : View sig .tc .vmem s .f32) : v.dmaCredit = cr s := credit_buf v.buf s
/-- A copy of something has some credit. -/
theorem cr_pos {s : Shape} (h : 0 < s.numel) : 0 < cr s := sig.dmaCredit_pos _ _ _ s .f32 h
/-- What a copy of 256 rows counts, -/
def N256 : ℕ := cr ⟨2, ![256, 512]⟩
/-- … and one of 128 rows. -/
def N128 : ℕ := cr ⟨2, ![128, 512]⟩
/-- What copy `j` counts. -/
def amt (j : Fin 18) : ℕ := if j < 4 ∨ j = 12 ∨ j = 13 then N256 else N128
/-- Every copy's credit is positive. -/
theorem amt_pos (j : Fin 18) : 0 < amt j := by
  unfold amt; split
  · exact cr_pos (by decide)
  · exact cr_pos (by decide)

/-- A copy of 256 rows credits what its semaphore expects. -/
theorem credit256 {R : ℕ} {M : Memref sig .tc .vmem ⟨2, ![R, 512]⟩ .f32} {off : Fin 2 → ℕ} {inb} {h} {j : Fin 18} (hj : j < 4 ∨ j = 12 ∨ j = 13) :
    (M.slice (Rect.unit (s := ⟨2, ![R, 512]⟩) off ![256, 512] inb) h).view.dmaCredit = amt j :=
  (show _ = N256 from credit_view _).trans (if_pos hj).symm
/-- A copy of 128 rows credits what its semaphore expects. -/
theorem credit128 {R : ℕ} {M : Memref sig .tc .vmem ⟨2, ![R, 512]⟩ .f32} {off : Fin 2 → ℕ} {inb} {h} {j : Fin 18} (hj : ¬(j < 4 ∨ j = 12 ∨ j = 13)) :
    (M.slice (Rect.unit (s := ⟨2, ![R, 512]⟩) off ![128, 512] inb) h).view.dmaCredit = amt j :=
  (show _ = N128 from credit_view _).trans (if_neg hj).symm

/-! ## What the semaphores hand over -/

section Payloads
variable (X : Dev nD → ℕ → ℕ → Elt F .f32)

/-- With its signal each partner of `c` lends it its landing buffers and the output rows `c` will fill. -/
def barPay (c : Dev nD) (d : Bool) : sProp 𝕄 :=
  if d then iprop(Free sM2 (p2 c) 0 256 ∗ Free sM3 (p2 c) 0 256 ∗ Free sM4 (p2 c) 0 128 ∗ Free sM4 (p2 c) 128 128
      ∗ Free oM (p2 c) (bO c) 256 ∗ Free oM (p2 c) (bS c) 128 ∗ Free oM (p2 c) (bS c + 128) 128)
  else iprop(Free sM0 (p1 c) 0 256 ∗ Free sM1 (p1 c) 0 256 ∗ Free sM5 (p1 c) 0 128 ∗ Free sM5 (p1 c) 128 128
      ∗ Free oM (p1 c) (aO c) 256 ∗ Free oM (p1 c) (aS c) 128 ∗ Free oM (p1 c) (aS c + 128) 128)

/-- When copy `j` has left `c`, `c` has the rows it was taken from again — except for copies 4 to 7, where they
    stay with the receiver. -/
def sendPay (c : Dev nD) (j : Fin 18) : sProp 𝕄 := match j.val with
  | 0 => At xM c (aS (p1 c)) 256 fullShare (X c) 0
  | 1 => At xM c (aO (p1 c)) 256 fullShare (X c) 0
  | 2 => At xM c (bS (p2 c)) 256 fullShare (X c) 0
  | 3 => At xM c (bO (p2 c)) 256 fullShare (X c) 0
  | 8 => At oM c (aO c) 128 fullShare.left (FIN X) 0
  | 9 => At oM c (aO c + 128) 128 fullShare.left (FIN X) 0
  | 10 => At oM c (bO c) 128 fullShare.left (FIN X) 0
  | 11 => At oM c (bO c + 128) 128 fullShare.left (FIN X) 0
  | 12 => At oM c (aO c) 256 fullShare.right (FIN X) 0
  | 13 => At oM c (bO c) 256 fullShare.right (FIN X) 0
  | 14 => At oM c (aS c) 128 fullShare (FIN X) 0
  | 15 => At oM c (bS c) 128 fullShare (FIN X) 0
  | 16 => At oM c (aS c + 128) 128 fullShare (FIN X) 0
  | 17 => At oM c (bS c + 128) 128 fullShare (FIN X) 0
  | _ => iprop(emp)

/-- When copy `j` has landed on `d`, `d` holds what it brought — and with copies 4 to 7 the sender's rows too, which
    `d` will overwrite with the sum. -/
def recvPay (d : Dev nD) (j : Fin 18) : sProp 𝕄 := match j.val with
  | 0 => At sM0 d 0 256 fullShare (X (p1 d)) (aS d)
  | 1 => At sM1 d 0 256 fullShare (X (p1 d)) (aO d)
  | 2 => At sM2 d 0 256 fullShare (X (p2 d)) (bS d)
  | 3 => At sM3 d 0 256 fullShare (X (p2 d)) (bO d)
  | 4 => iprop(At sM4 d 0 128 fullShare (S1A X (p2 d)) (aO d) ∗ Free oM (p2 d) (aO d) 128)
  | 5 => iprop(At sM4 d 128 128 fullShare (S1A X (p2 d)) (aO d) ∗ Free oM (p2 d) (aO d + 128) 128)
  | 6 => iprop(At sM5 d 0 128 fullShare (S1B X (p1 d)) (bO d) ∗ Free oM (p1 d) (bO d) 128)
  | 7 => iprop(At sM5 d 128 128 fullShare (S1B X (p1 d)) (bO d) ∗ Free oM (p1 d) (bO d + 128) 128)
  | 8 => At oM d (aS d) 128 fullShare (FIN X) 0
  | 9 => At oM d (aS d + 128) 128 fullShare (FIN X) 0
  | 10 => At oM d (bS d) 128 fullShare (FIN X) 0
  | 11 => At oM d (bS d + 128) 128 fullShare (FIN X) 0
  | 12 => At oM d (aO (p1 d)) 256 fullShare (FIN X) 0
  | 13 => At oM d (bO (p2 d)) 256 fullShare (FIN X) 0
  | 14 => At oM d (aS (p1 d)) 128 fullShare (FIN X) 0
  | 15 => At oM d (bS (p2 d)) 128 fullShare (FIN X) 0
  | 16 => At oM d (aS (p1 d) + 128) 128 fullShare (FIN X) 0
  | 17 => At oM d (bS (p2 d) + 128) 128 fullShare (FIN X) 0
  | _ => iprop(emp)

/-- What the DMA semaphore `k` of `c` hands over. -/
def pay (c : Dev nD) (k : Bool × Fin 18) : sProp 𝕄 := if k.1 then recvPay X c k.2 else sendPay X c k.2

/-- What the barrier hands over can be kept in an invariant. -/
instance barPay_storable (c : Dev nD) (d : Bool) : BI.Storable (upEmb : UEmb _ 𝕄) (barPay (F := F) c d) := by
  unfold barPay; split <;> infer_instance
/-- What a finished send hands back can be kept in an invariant. -/
instance sendPay_storable (c : Dev nD) (j : Fin 18) : BI.Storable (upEmb : UEmb _ 𝕄) (sendPay X c j) := by
  unfold sendPay; split <;> infer_instance
/-- What a landing hands over can be kept in an invariant. -/
instance recvPay_storable (c : Dev nD) (j : Fin 18) : BI.Storable (upEmb : UEmb _ 𝕄) (recvPay X c j) := by
  unfold recvPay; split <;> infer_instance
/-- What a copy hands over can be kept in an invariant. -/
instance pay_storable (c : Dev nD) (k : Bool × Fin 18) : BI.Storable (upEmb : UEmb _ 𝕄) (pay X c k) := by
  unfold pay; split <;> infer_instance

/-- The schedule: one round on every semaphore, a barrier's of two signals, a DMA semaphore's of one copy. -/
def sched : Rounds.Schedule (GSem nD τ sig) Bool 𝕄 where
  duties g r := if r = 0 ∧ g.1.2 = .tc then (match dec g.2 with | some none => Finset.univ | some (some _) => {false} | none => ∅) else ∅
  unitless _ := False
  amount g _ _ := match dec g.2 with | some (some k) => amt k.2 | _ => 1
  payload g _ d := match dec g.2 with
    | some none => barPay g.1.1 d
    | some (some k) => pay X g.1.1 k
    | none => iprop(emp)
  amount_pos g _ _ _ := by
    show 0 < (match dec g.2 with | some (some k) => amt k.2 | _ => 1)
    split
    · exact amt_pos _
    · exact Nat.one_pos

/-- What the schedule hands over can be kept in an invariant. -/
instance sched_storable (g : GSem nD τ sig) (r : ℕ) (d : Bool) : BI.Storable (upEmb : UEmb _ 𝕄) ((sched X).payload g r d) := by
  dsimp only [sched]; split <;> infer_instance

variable (c : Dev nD) (k : Bool × Fin 18)

/-- The barrier's cell has two duties. -/
theorem duties_bar : (sched X).duties (cell c none) 0 = Finset.univ := by
  dsimp only [sched]; rw [if_pos ⟨rfl, rfl⟩, dec_csem]
/-- A copy's cell has one duty. -/
theorem duties_dma : (sched X).duties (cell c (some k)) 0 = {false} := by
  dsimp only [sched]; rw [if_pos ⟨rfl, rfl⟩, dec_csem]
/-- There is one round only. -/
theorem duties_later (g : GSem nD τ sig) : ∀ r, 1 ≤ r → (sched X).duties g r = ∅ :=
  fun r hr => by dsimp only [sched]; rw [if_neg fun h => by omega]
/-- Each signal of the barrier is of one unit. -/
theorem amount_bar (d : Bool) : (sched X).amount (cell c none) 0 d = 1 := by dsimp only [sched]; rw [dec_csem]
/-- A copy's duty is its credit. -/
theorem amount_dma (d : Bool) : (sched X).amount (cell c (some k)) 0 d = amt k.2 := by dsimp only [sched]; rw [dec_csem]
/-- A barrier signal hands over its payload. -/
theorem payload_bar (d : Bool) : (sched X).payload (cell c none) 0 d = barPay c d := by dsimp only [sched]; rw [dec_csem]
/-- A copy hands over its payload. -/
theorem payload_dma (d : Bool) : (sched X).payload (cell c (some k)) 0 d = pay X c k := by dsimp only [sched]; rw [dec_csem]
/-- The barrier waits for two units. -/
theorem expect_bar : (sched X).expect (cell c none) 0 = 2 := by
  unfold Schedule.expect Schedule.amountOf
  rw [duties_bar, Finset.sum_congr rfl fun d _ => amount_bar X c d]; rfl
/-- A copy's wait is for its credit. -/
theorem expect_dma : (sched X).expect (cell c (some k)) 0 = amt k.2 := by
  unfold Schedule.expect Schedule.amountOf; rw [duties_dma, Finset.sum_singleton, amount_dma]
/-- The barrier wait takes both payloads. -/
theorem rest_bar : bigSep ((sched X).duties (cell c none) 0 \ ∅) (fun d => (sched X).payload (cell c none) 0 d)
    = iprop(barPay c false ∗ barPay c true) := by
  rw [Finset.sdiff_empty, duties_bar, bigSep_univ_eq_bigSepL [false, true] (by decide) (by decide), bigSepL_cons_cons, bigSepL_singleton,
    payload_bar, payload_bar]
  rfl
/-- A copy's wait takes its payload. -/
theorem rest_dma : bigSep ((sched X).duties (cell c (some k)) 0 \ ∅) (fun d => (sched X).payload (cell c (some k)) 0 d) = pay X c k := by
  rw [Finset.sdiff_empty, duties_dma, bigSep_singleton, payload_dma]

end Payloads

/-! ## What a device owes, and in which order it waits -/

/-- What `c` owes for the copies `l` it has still to start: their counts on the receivers' semaphores. -/
def Owe (c : Dev nD) : List (Fin 18) → CellTallies nD τ sig Unit
  | [] => 0
  | j :: l => Owe c l + tallyAt (cell (tgt j c) (some (true, j))) () (amt j)

/-- The copies in the order they are started. -/
def order : List (Fin 18) := [0, 2, 1, 3, 4, 5, 6, 7, 8, 9, 10, 11, 12, 13, 14, 15, 16, 17]

/-- What `c` owes at launch: all copies and a signal to each partner's barrier. -/
def O₁ (c : Dev nD) : CellTallies nD τ sig Unit := Owe c order + tallyAt (cell (p2 c) none) () 1
/-- All that device `c` owes at its start. -/
def O₀ (c : Dev nD) : CellTallies nD τ sig Unit := O₁ c + tallyAt (cell (p1 c) none) () 1

/-- How late a semaphore is waited for: the barrier, then the receive semaphores in four waves. -/
def late (j : Fin 18) : ℕ := if j < 4 then 2 else if j < 8 then 3 else if j < 12 then 4 else 5
/-- The level of a key: later waits lie higher. -/
def lvk : Option Key → ℕ
  | some none => 1
  | some (some (true, j)) => late j
  | _ => 0
/-- Every cell of a device has one level. -/
def L (g : GSem nD τ sig) : Finset Unit := if g.1.2 = .tc then {()} else ∅
/-- The level of a cell. -/
def lv (g : GSem nD τ sig) (_ : Unit) : ℕ := lvk (dec g.2)

/-- Other threads have no cells. -/
theorem L_of_ne (g : GSem nD τ sig) (h : g.1.2 ≠ .tc) : L g = ∅ := if_neg h
/-- A device has its cells. -/
theorem L_tc (c : Dev nD) (sm : SemLoc sig) : L ((c : Thread nD τ), sm) = {()} := if_pos rfl
/-- A cell's level is its key's. -/
theorem lv_cell (c : Dev nD) (k : Key) : lv (cell c k) () = lvk (some k) := by unfold lv; rw [dec_csem]

/-- What is owed for a list of copies is owed on the cells of one of them. -/
theorem Owe_pos {c : Dev nD} {l : List (Fin 18)} {g : GSem nD τ sig} {u : Unit} (h : 0 < Owe c l g u) :
    ∃ j ∈ l, g = cell (tgt j c) (some (true, j)) := by
  induction l with
  | nil => exact absurd h (Nat.lt_irrefl 0)
  | cons j l ih =>
    unfold Owe at h
    rw [Pi.add_apply, Finsupp.add_apply, tallyAt_apply] at h
    by_cases hg : g = cell (tgt j c) (some (true, j)) ∧ u = ()
    · exact ⟨j, List.mem_cons_self, hg.1⟩
    · rw [if_neg hg, Nat.add_zero] at h
      obtain ⟨j', hj', e⟩ := ih h
      exact ⟨j', List.mem_cons_of_mem _ hj', e⟩

/-- What is owed at the start is owed on a barrier or on the cells of a copy. -/
theorem O₀_pos {c : Dev nD} {g : GSem nD τ sig} {u : Unit} (h : 0 < O₀ c g u) :
    (∃ j ∈ order, g = cell (tgt j c) (some (true, j))) ∨ g = cell (p2 c) none ∨ g = cell (p1 c) none := by
  unfold O₀ O₁ at h
  rw [Pi.add_apply, Finsupp.add_apply, Pi.add_apply, Finsupp.add_apply, tallyAt_apply, tallyAt_apply] at h
  by_cases h1 : g = cell (p1 c) none
  · exact .inr (.inr h1)
  by_cases h2 : g = cell (p2 c) none
  · exact .inr (.inl h2)
  rw [if_neg (fun h' => h2 h'.1), if_neg (fun h' => h1 h'.1)] at h
  exact .inl (Owe_pos (by simpa using h))

/-- `c` may wait on a semaphore as long as everything it still owes is waited for later. -/
theorem mayWait_sem (c : Dev nD) (sm : SemLoc sig) (l : List (Fin 18)) (h : ∀ j ∈ l, lvk (dec sm) < late j) :
    (levAts L lv : sProp 𝕄) ⊢ MayWait (c : Thread nD τ) sm () (Owe c l) :=
  MayOwe.of_cut (L := L) (lev := lv) (lvk (dec sm)) (fun p hp => by rw [Finset.mem_singleton.mp hp, L_tc]; exact Finset.mem_singleton_self _)
    (fun g u hg => by obtain ⟨j, -, rfl⟩ := Owe_pos hg; rw [L_tc]; exact Finset.mem_singleton_self _)
    (fun p hp => by rw [Finset.mem_singleton.mp hp]; exact le_refl _)
    (fun g u hg => by obtain ⟨j, hj, rfl⟩ := Owe_pos hg; cases u; rw [lv_cell]; exact h j hj)

/-- A wait is allowed while only copies of higher level are owed. -/
theorem mayWait_cell (c : Dev nD) (k : Key) (l : List (Fin 18)) (h : ∀ j ∈ l, lvk (some k) < late j) :
    (levAts L lv : sProp 𝕄) ⊢ MayWait (c : Thread nD τ) (csem k) () (Owe c l) :=
  mayWait_sem c (csem k) l (by rw [dec_csem]; exact h)

/-- The staging semaphores are waited for first of all. -/
theorem mayWait_stage (c : Dev nD) (q : DmaSem sig) (hq : dec (.dma q) = none) (O : CellTallies nD τ sig Unit) (hO : O = O₀ c ∨ O = 0) :
    (levAts L lv : sProp 𝕄) ⊢ MayWait (c : Thread nD τ) (.dma q) () O := by
  rcases hO with rfl | rfl
  · have hlate : ∀ j : Fin 18, 0 < late j := by decide
    refine MayOwe.of_cut (L := L) (lev := lv) 0 (fun p hp => by rw [Finset.mem_singleton.mp hp, L_tc]; exact Finset.mem_singleton_self _)
      (fun g u hg => by rcases O₀_pos hg with ⟨j, -, rfl⟩ | rfl | rfl <;> exact Finset.mem_singleton_self _)
      (fun p hp => by rw [Finset.mem_singleton.mp hp]; show lvk (dec (.dma q)) ≤ 0; rw [hq]; exact le_refl _)
      (fun g u hg => by
        cases u
        rcases O₀_pos hg with ⟨j, -, rfl⟩ | rfl | rfl
        · rw [lv_cell]; exact hlate j
        · rw [lv_cell]; exact Nat.one_pos
        · rw [lv_cell]; exact Nat.one_pos)
  · rw [MayWait_zero]; iintro -; iempintro

end Cert.Butterfly

end
-- ==== Proof.Steps.lean ====
/-
The steps of the kernel: a load, a store, the start of a copy, a wait.
-/
module

public import proofs.«01_k».proof.Proof.Cells
public import Idealize.ShloMosaic.Lib.Pointwise.Reshape

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The program has no loops to bound. -/
abbrev 𝒱₀ : Variants := Variants.none

/-- The weakest precondition on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The end of a program. -/
theorem step_ret (c : Dev nD) {α : Type} (x : α) {Q : α → sProp 𝕄} : Q x ⊢ WP c (.ret x) Q := by
  unfold WP; rw [wp_ret]; iintro H; imodintro; iexact H

/-- One program after another. -/
theorem step_seq (c : Dev nD) {α β : Type} (p : Prog (TpuEff nD τ sig (Elt F) Λ₀ .tc) α) (k : α → Prog (TpuEff nD τ sig (Elt F) Λ₀ .tc) β) {Q : β → sProp 𝕄} :
    WP c p (fun x => WP c (k x) Q) ⊢ WP c (p >>= k) Q := Entails.of_eq (wp_bind _ _ _ p k Q).symm

/-- A device's own number. -/
theorem step_dev (c : Dev nD) {α : Type} {Q : α → sProp 𝕄} {k : Dev nD → Prog (TpuEff nD τ sig (Elt F) Λ₀ .tc) α} :
    WP c (k c) Q ⊢ WP c (.op .deviceId k) Q := by
  unfold WP; rw [wp_deviceId]

/-! ## Loads and stores -/

section Memory
variable {R n a : ℕ} {off : Fin 2 → ℕ} (M : Memref sig .tc .vmem ⟨2, ![R, 512]⟩ .f32) (c : Dev nD)

/-- A load of `n` whole rows from row `a` yields the tile they hold. -/
theorem step_load (q : PosShare TreeShare) (G : ℕ → ℕ → Elt F .f32) (s : ℕ) (ho : off = ![a, 0]) {inb}
    {hl : M.view.LoadsAt (Rect.unit (s := ⟨2, ![R, 512]⟩) off ![n, 512] inb).toLoadRect}
    {α : Type} {Q : α → sProp 𝕄} {k : (Shape.Idx ⟨2, ![n, 512]⟩ → Elt F .f32) → Prog (TpuEff nD τ sig (Elt F) Λ₀ .tc) α} :
    At M c a n q G s ⊢ iprop((At M c a n q G s -∗ WP c (k (tile n G (s + a))) Q)
      -∗ WP c (.op (.load M (Rect.unit (s := ⟨2, ![R, 512]⟩) off ![n, 512] inb).toLoadRect hl) k) Q) := by
  iintro H Hk
  ihave H' := (Entails.of_eq (At_view M c q G s ho inb)) $$ H
  icases H' with ⟨%f, %hf, H⟩
  iapply (wp_load 𝒱₀ (c : Thread nD τ) none Set.univ (m := M)
    (S := (M.view.slice (Rect.unit (s := ⟨2, ![R, 512]⟩) off ![n, 512] inb)).set) (by rw [View.set_slice]; exact Finset.Subset.refl _)) $$ H
  iintro H
  rw [View.readAt_rect, hf]
  iapply Hk
  rw [At_view M c q G s ho inb]
  iexists f; isplitr; · ipureintro; exact hf
  iexact H

/-- A store of `n` whole rows at row `a`. -/
theorem step_store (G₀ : ℕ → ℕ → Elt F .f32) (s₀ : ℕ) (G : ℕ → ℕ → Elt F .f32) (s : ℕ) (ho : off = ![a, 0]) {inb}
    {w : Shape.Idx ⟨2, ![n, 512]⟩ → Elt F .f32} (hw : w = tile n G (s + a))
    {hx : (M.access (Rect.unit (s := ⟨2, ![R, 512]⟩) off ![n, 512] inb)).Stores Finset.univ}
    {hm : (Finset.univ : Finset (Rect.unit (s := ⟨2, ![R, 512]⟩) off ![n, 512] inb).shape.Idx) = Finset.univ ∨ ∀ b, (Rect.unit (s := ⟨2, ![R, 512]⟩) off ![n, 512] inb).stride b = 1}
    {α : Type} {Q : α → sProp 𝕄} {k : PUnit → Prog (TpuEff nD τ sig (Elt F) Λ₀ .tc) α} :
    At M c a n fullShare G₀ s₀ ⊢ iprop((At M c a n fullShare G s -∗ WP c (k ⟨⟩) Q)
      -∗ WP c (.op (.store M (Rect.unit (s := ⟨2, ![R, 512]⟩) off ![n, 512] inb) w Finset.univ hx hm) k) Q) := by
  iintro H Hk
  ihave H' := (Entails.of_eq (At_view M c fullShare G₀ s₀ ho inb)) $$ H
  icases H' with ⟨%f, %hf, H⟩
  iapply (wp_store 𝒱₀ (c : Thread nD τ) none Set.univ (m := M) (r := Rect.unit (s := ⟨2, ![R, 512]⟩) off ![n, 512] inb) (Mk := Finset.univ)
    (S := (M.view.slice (Rect.unit (s := ⟨2, ![R, 512]⟩) off ![n, 512] inb)).set) (Finset.Subset.refl _)) $$ H
  iintro H
  iapply Hk
  rw [At_view M c fullShare G s ho inb]
  iexists ((M.view.slice (Rect.unit (s := ⟨2, ![R, 512]⟩) off ![n, 512] inb)).write (Elt F) f w Finset.univ)
  isplitr; · ipureintro; rw [View.read_write_univ, hw]
  iexact H

end Memory

/-- The sum of two tiles, the first passed through a reshape to its own shape. -/
theorem add_tiles {n : ℕ} {h} (G H : ℕ → ℕ → Elt F .f32) {a b e : ℕ} (hb : b = a) (he : e = a) :
    (addf (shapeCast ⟨2, ![n, 512]⟩ (tile n G a) h) (tile n H b) : FVec F ⟨2, ![n, 512]⟩ .f32) = tile n (plus G H) e := by
  subst hb he; rw [shapeCast_id]; rfl

/-- A band with any contents has some contents. -/
theorem Free_elim {R : ℕ} (M : Memref sig .tc .vmem ⟨2, ![R, 512]⟩ .f32) (d : Dev nD) (a n : ℕ) :
    (Free M d a n : sProp 𝕄) ⊢ iprop(∃ G, At M d a n fullShare G 0) := .rfl

/-! ## Copies -/

section Copies
variable (X : Dev nD → ℕ → ℕ → Elt F .f32) (K : Dev nD × Key → ℕ)

/-- Every semaphore's invariant, under the names `K`, and that its round is open. -/
def records : sProp 𝕄 :=
  iprop((bigSep Finset.univ fun ck : Dev nD × Key => cellInv ER (sched X) (K ck) (cell ck.1 ck.2))
    ∗ bigSep Finset.univ fun ck : Dev nD × Key => reached ER (cell ck.1 ck.2) 0)
/-- The records can be used again and again. -/
instance records_persistent : BI.Persistent (records X K) := by unfold records; infer_instance

/-- The records hold every cell's invariant. -/
theorem records_inv (ck : Dev nD × Key) : records X K ⊢ cellInv ER (sched X) (K ck) (cell ck.1 ck.2) := by
  unfold records; iintro ⟨H, -⟩
  iapply (show (bigSep Finset.univ fun ck : Dev nD × Key => (cellInv ER (sched X) (K ck) (cell ck.1 ck.2) : sProp 𝕄)) ⊢ cellInv ER (sched X) (K ck) (cell ck.1 ck.2) from
    bigSep_elim (Finset.mem_univ ck))
  iexact H
/-- The records say that every cell is in its first round. -/
theorem records_reached (ck : Dev nD × Key) : records X K ⊢ reached ER (cell ck.1 ck.2) 0 := by
  unfold records; iintro ⟨-, H⟩
  iapply (show (bigSep Finset.univ fun ck : Dev nD × Key => (reached ER (cell ck.1 ck.2) 0 : sProp 𝕄)) ⊢ reached ER (cell ck.1 ck.2) 0 from
    bigSep_elim (Finset.mem_univ ck))
  iexact H

/-- `c` may start copy `j`, -/
def Arm (c : Dev nD) (j : Fin 18) : sProp 𝕄 :=
  iprop(atPos ER (cell c (some (false, j))) 0 ∅ 0 ∗ dutyTok ER (cell c (some (false, j))) 0 false
    ∗ dutyTok ER (cell (tgt j c) (some (true, j))) 0 false)
/-- … it may wait for the semaphore `k`, -/
def Pend (c : Dev nD) (k : Bool × Fin 18) : sProp 𝕄 :=
  iprop(atPos ER (cell c (some k)) 0 ∅ 0 ∗ cred (tallyAt (cell c (some k)) () (amt k.2)))
/-- … and it still owes the copies `l`. -/
def Owes (c : Dev nD) (l : List (Fin 18)) : sProp 𝕄 := iprop(∃ W : Waits sig Unit, owes (c : Thread nD τ) (Owe c l) W)

section Start

variable {t : Shape} {src dst : Memref sig .tc .vmem t .f32} (c e : Dev nD) (j : Fin 18) (l : List (Fin 18)) (q : PosShare TreeShare)
  (v v₀ : t.Idx → Elt F .f32) {sS sR : DmaSem sig}

/-- Starting copy `j`, when the source comes back after the copy has left. -/
theorem start_copy (he : e = tgt j c) (hS : sS = sendS j) (hR : sR = recvS j) (hN : dst.view.dmaCredit = amt j)
    (hp : owns (c : Thread nD τ) src q v ⊢ sendPay X c j) (hp' : owns (tgt j c : Thread nD τ) dst fullShare v ⊢ recvPay X (tgt j c) j)
    {α : Type} {Q : α → sProp 𝕄} {k : PUnit → Prog (TpuEff nD τ sig (Elt F) Λ₀ .tc) α}
    {hsc : (dst : Memref sig (Dev.tc e : Thread nD τ).2.kind .vmem t .f32).view.ref.isScScratch = false} {hsrc : src.view.WordExact} {hdst : dst.view.WordExact}
    {hsem : DmaTarget.Typed .vmem (.dma sR) (.remote (Dev.tc e : Thread nD τ) (dst : Memref sig (Dev.tc e : Thread nD τ).2.kind .vmem t .f32) (.dma sS) hsc)} :
    iprop(records X K ∗ Arm c j ∗ Owes c (j :: l) ∗ owns (c : Thread nD τ) src q v ∗ owns (tgt j c : Thread nD τ) dst fullShare v₀)
      ⊢ iprop(((Pend c (false, j) ∗ Owes c l) -∗ WP c (k ⟨⟩) Q)
        -∗ WP c (.op (.enqueueDma src (.remote (Dev.tc e : Thread nD τ) dst (.dma sS) hsc) (.dma sR) hsrc hdst hsem) k) Q) := by
  subst he hS hR
  unfold Arm Owes Pend
  iintro ⟨#HR, ⟨Hat, Ht, Ht'⟩, ⟨%W, Ho⟩, Hs, Hd⟩ Hk
  ihave Hs' := (show owns (c : Thread nD τ) src q v ⊢ (iprop(∃ f, ⌜src.view.read (Elt F) f = v⌝ ∗ (src.view.loc (c : Thread nD τ) ↦[src.view.set]{q} f)) : sProp 𝕄) from .rfl) $$ Hs
  ihave Hd' := (show owns (tgt j c : Thread nD τ) dst fullShare v₀ ⊢ (iprop(∃ f, ⌜dst.view.read (Elt F) f = v₀⌝ ∗ (dst.view.loc (tgt j c : Thread nD τ) ↦[dst.view.set]{fullShare} f)) : sProp 𝕄) from .rfl) $$ Hd
  icases Hs' with ⟨%fs, %hfs, Hs⟩
  icases Hd' with ⟨%fd, %hfd, Hd⟩
  iapply (Rounds.wp_send_pointsTo 𝒱₀ ER (sched X) (c : Thread nD τ) none (κ₁ := K (c, some (false, j))) (κ₂ := K (tgt j c, some (true, j)))
    (src := src) (dst := dst) (sS := .dma (sendS j)) (sem := .dma (recvS j)) (c' := (tgt j c : Thread nD τ))
    (r₁ := 0) (r₂ := 0) (d₁ := false) (d₂ := false) (fs := fs) (fd := fd)
    (by rw [show (((c : Thread nD τ), .dma (sendS j)) : GSem nD τ sig) = cell c (some (false, j)) from rfl, duties_dma]; exact Finset.mem_singleton_self _)
    (by rw [show (((tgt j c : Thread nD τ), .dma (recvS j)) : GSem nD τ sig) = cell (tgt j c) (some (true, j)) from rfl, duties_dma]; exact Finset.mem_singleton_self _)
    () () (amt j) hN (amount_dma X c (false, j) false) (amount_dma X (tgt j c) (true, j) false) (Owe c l) rfl (W := W) (hr := Topo.routes_tc c (tgt j c))
    (by
      refine .trans ?_ (Entails.of_eq (payload_dma X c (false, j) false).symm)
      refine .trans ?_ hp
      unfold owns
      iintro H; iexists fs; isplitr; · ipureintro; exact hfs
      iexact H)
    (by
      refine .trans ?_ (Entails.of_eq (payload_dma X (tgt j c) (true, j) false).symm)
      refine .trans ?_ hp'
      unfold owns
      iintro H; iexists (dst.view.write (Elt F) fd (src.view.read (Elt F) fs) Finset.univ); isplitr
      · ipureintro; exact (View.read_write_univ _ _).trans hfs
      iexact H)) $$ [Hs Hd Ho Ht Ht']
  · isplitr; · iapply (records_inv X K (c, some (false, j))); iexact HR
    isplitr; · iapply (records_inv X K (tgt j c, some (true, j))); iexact HR
    isplitl [Hs]; · iexact Hs
    isplitl [Hd]; · iexact Hd
    isplitl [Ho]; · iexact Ho
    isplitl [Ht]; · iexact Ht
    isplitr; · iapply (records_reached X K (c, some (false, j))); iexact HR
    isplitl [Ht']; · iexact Ht'
    iapply (records_reached X K (tgt j c, some (true, j))); iexact HR
  iintro ⟨Hc, Ho⟩
  iapply Hk
  isplitl [Hat Hc]
  · isplitl [Hat]; · iexact Hat
    iexact Hc
  iexists W; iexact Ho

/-- Starting copy `j`, when the source goes to the receiver along with what is copied. -/
theorem start_give (he : e = tgt j c) (hS : sS = sendS j) (hR : sR = recvS j) (hN : dst.view.dmaCredit = amt j)
    (hp : sendPay X c j = iprop(emp))
    (hp' : iprop(owns (tgt j c : Thread nD τ) dst fullShare v ∗ owns (c : Thread nD τ) src q v) ⊢ recvPay X (tgt j c) j)
    {α : Type} {Q : α → sProp 𝕄} {k : PUnit → Prog (TpuEff nD τ sig (Elt F) Λ₀ .tc) α}
    {hsc : (dst : Memref sig (Dev.tc e : Thread nD τ).2.kind .vmem t .f32).view.ref.isScScratch = false} {hsrc : src.view.WordExact} {hdst : dst.view.WordExact}
    {hsem : DmaTarget.Typed .vmem (.dma sR) (.remote (Dev.tc e : Thread nD τ) (dst : Memref sig (Dev.tc e : Thread nD τ).2.kind .vmem t .f32) (.dma sS) hsc)} :
    iprop(records X K ∗ Arm c j ∗ Owes c (j :: l) ∗ owns (c : Thread nD τ) src q v ∗ owns (tgt j c : Thread nD τ) dst fullShare v₀)
      ⊢ iprop(((Pend c (false, j) ∗ Owes c l) -∗ WP c (k ⟨⟩) Q)
        -∗ WP c (.op (.enqueueDma src (.remote (Dev.tc e : Thread nD τ) dst (.dma sS) hsc) (.dma sR) hsrc hdst hsem) k) Q) := by
  subst he hS hR
  unfold Arm Owes Pend
  iintro ⟨#HR, ⟨Hat, Ht, Ht'⟩, ⟨%W, Ho⟩, Hs, Hd⟩ Hk
  ihave Hs' := (show owns (c : Thread nD τ) src q v ⊢ (iprop(∃ f, ⌜src.view.read (Elt F) f = v⌝ ∗ (src.view.loc (c : Thread nD τ) ↦[src.view.set]{q} f)) : sProp 𝕄) from .rfl) $$ Hs
  ihave Hd' := (show owns (tgt j c : Thread nD τ) dst fullShare v₀ ⊢ (iprop(∃ f, ⌜dst.view.read (Elt F) f = v₀⌝ ∗ (dst.view.loc (tgt j c : Thread nD τ) ↦[dst.view.set]{fullShare} f)) : sProp 𝕄) from .rfl) $$ Hd
  icases Hs' with ⟨%fs, %hfs, Hs⟩
  icases Hd' with ⟨%fd, %hfd, Hd⟩
  iapply (Rounds.wp_send_landing_pointsTo 𝒱₀ ER (sched X) (c : Thread nD τ) none (κ₁ := K (c, some (false, j))) (κ₂ := K (tgt j c, some (true, j)))
    (src := src) (dst := dst) (sS := .dma (sendS j)) (sem := .dma (recvS j)) (c' := (tgt j c : Thread nD τ))
    (r₁ := 0) (r₂ := 0) (d₁ := false) (d₂ := false) (fs := fs) (fd := fd) (q := q)
    (by rw [show (((c : Thread nD τ), .dma (sendS j)) : GSem nD τ sig) = cell c (some (false, j)) from rfl, duties_dma]; exact Finset.mem_singleton_self _)
    (by rw [show (((tgt j c : Thread nD τ), .dma (recvS j)) : GSem nD τ sig) = cell (tgt j c) (some (true, j)) from rfl, duties_dma]; exact Finset.mem_singleton_self _)
    () () (amt j) hN (amount_dma X c (false, j) false) (amount_dma X (tgt j c) (true, j) false) (Owe c l) rfl (W := W) (hr := Topo.routes_tc c (tgt j c))
    (Entails.of_eq (hp.symm.trans (payload_dma X c (false, j) false).symm))
    (by
      refine .trans ?_ (Entails.of_eq (payload_dma X (tgt j c) (true, j) false).symm)
      refine .trans ?_ hp'
      unfold owns
      iintro ⟨H, H'⟩
      isplitl [H]
      · iexists (dst.view.write (Elt F) fd (src.view.read (Elt F) fs) Finset.univ); isplitr
        · ipureintro; exact (View.read_write_univ _ _).trans hfs
        iexact H
      · iexists fs; isplitr; · ipureintro; exact hfs
        iexact H')) $$ [Hs Hd Ho Ht Ht']
  · isplitr; · iapply (records_inv X K (c, some (false, j))); iexact HR
    isplitr; · iapply (records_inv X K (tgt j c, some (true, j))); iexact HR
    isplitl [Hs]; · iexact Hs
    isplitl [Hd]; · iexact Hd
    isplitl [Ho]; · iexact Ho
    isplitl [Ht]; · iexact Ht
    isplitr; · iapply (records_reached X K (c, some (false, j))); iexact HR
    isplitl [Ht']; · iexact Ht'
    iapply (records_reached X K (tgt j c, some (true, j))); iexact HR
  iintro ⟨Hc, Ho⟩
  iapply Hk
  isplitl [Hat Hc]
  · isplitl [Hat]; · iexact Hat
    iexact Hc
  iexists W; iexact Ho

end Start

section Bands

variable {R R' n a b : ℕ} {off off' : Fin 2 → ℕ} (M : Memref sig .tc .vmem ⟨2, ![R, 512]⟩ .f32) (M' : Memref sig .tc .vmem ⟨2, ![R', 512]⟩ .f32)
  (c e : Dev nD) (j : Fin 18) (l : List (Fin 18)) (q : PosShare TreeShare) (G : ℕ → ℕ → Elt F .f32) (s s' : ℕ) {sS sR : DmaSem sig}
  {inb : ∀ i, off i + (![n, 512] : Fin 2 → ℕ) i ≤ (⟨2, ![R, 512]⟩ : Shape).size i} {h : ∀ i, (Rect.unit (s := ⟨2, ![R, 512]⟩) off ![n, 512] inb).stride i = 1}
  {inb' : ∀ i, off' i + (![n, 512] : Fin 2 → ℕ) i ≤ (⟨2, ![R', 512]⟩ : Shape).size i} {h' : ∀ i, (Rect.unit (s := ⟨2, ![R', 512]⟩) off' ![n, 512] inb').stride i = 1}

/-- Starting copy `j` of `n` rows, when they come back after the copy has left. -/
theorem step_copy (he : e = tgt j c) (ho : off = ![a, 0]) (ho' : off' = ![b, 0]) (hs : s' + b = s + a) (hS : sS = sendS j) (hR : sR = recvS j)
    (hN : (M'.slice (Rect.unit (s := ⟨2, ![R', 512]⟩) off' ![n, 512] inb') h').view.dmaCredit = amt j)
    (hp : At M c a n q G s ⊢ sendPay X c j) (hp' : At M' (tgt j c) b n fullShare G s' ⊢ recvPay X (tgt j c) j)
    {α : Type} {Q : α → sProp 𝕄} {k : PUnit → Prog (TpuEff nD τ sig (Elt F) Λ₀ .tc) α}
    {hsc : ((M'.slice (Rect.unit (s := ⟨2, ![R', 512]⟩) off' ![n, 512] inb') h' : Memref sig .tc .vmem _ .f32) : Memref sig (Dev.tc e : Thread nD τ).2.kind .vmem ⟨2, ![n, 512]⟩ .f32).view.ref.isScScratch = false}
    {hsrc : (M.slice (Rect.unit (s := ⟨2, ![R, 512]⟩) off ![n, 512] inb) h).view.WordExact}
    {hdst : (M'.slice (Rect.unit (s := ⟨2, ![R', 512]⟩) off' ![n, 512] inb') h').view.WordExact}
    {hsem : DmaTarget.Typed .vmem (.dma sR) (.remote (Dev.tc e : Thread nD τ)
      ((M'.slice (Rect.unit (s := ⟨2, ![R', 512]⟩) off' ![n, 512] inb') h' : Memref sig .tc .vmem _ .f32) : Memref sig (Dev.tc e : Thread nD τ).2.kind .vmem ⟨2, ![n, 512]⟩ .f32) (.dma sS) hsc)} :
    iprop(records X K ∗ Arm c j ∗ Owes c (j :: l) ∗ At M c a n q G s ∗ Free M' (tgt j c) b n)
      ⊢ iprop(((Pend c (false, j) ∗ Owes c l) -∗ WP c (k ⟨⟩) Q)
        -∗ WP c (.op (.enqueueDma (M.slice (Rect.unit (s := ⟨2, ![R, 512]⟩) off ![n, 512] inb) h)
          (.remote (Dev.tc e : Thread nD τ) (M'.slice (Rect.unit (s := ⟨2, ![R', 512]⟩) off' ![n, 512] inb') h') (.dma sS) hsc) (.dma sR) hsrc hdst hsem) k) Q) := by
  unfold Free
  iintro ⟨HR, HA, HO, HS, ⟨%G₀, HD⟩⟩ Hk
  iapply (start_copy X K c e j l q (tile n G (s + a)) (tile n G₀ (0 + b)) he hS hR hN
    ((Entails.of_eq (At_owns M c q G s ho inb h).symm).trans hp)
    ((Entails.of_eq (by rw [At_owns M' (tgt j c) fullShare G s' ho' inb' h', hs])).trans hp')) $$ [HR HA HO HS HD]
  · isplitl [HR]; · iexact HR
    isplitl [HA]; · iexact HA
    isplitl [HO]; · iexact HO
    isplitl [HS]
    · iapply (Entails.of_eq (At_owns M c q G s ho inb h)); iexact HS
    iapply (Entails.of_eq (At_owns M' (tgt j c) fullShare G₀ 0 ho' inb' h')); iexact HD
  iexact Hk

/-- Starting copy `j` of `n` rows, when they go to the receiver along with the copy. -/
theorem step_give (he : e = tgt j c) (ho : off = ![a, 0]) (ho' : off' = ![b, 0]) (hs : s' + b = s + a) (hS : sS = sendS j) (hR : sR = recvS j)
    (hN : (M'.slice (Rect.unit (s := ⟨2, ![R', 512]⟩) off' ![n, 512] inb') h').view.dmaCredit = amt j)
    (hp : sendPay X c j = iprop(emp)) (hp' : iprop(At M' (tgt j c) b n fullShare G s' ∗ At M c a n q G s) ⊢ recvPay X (tgt j c) j)
    {α : Type} {Q : α → sProp 𝕄} {k : PUnit → Prog (TpuEff nD τ sig (Elt F) Λ₀ .tc) α}
    {hsc : ((M'.slice (Rect.unit (s := ⟨2, ![R', 512]⟩) off' ![n, 512] inb') h' : Memref sig .tc .vmem _ .f32) : Memref sig (Dev.tc e : Thread nD τ).2.kind .vmem ⟨2, ![n, 512]⟩ .f32).view.ref.isScScratch = false}
    {hsrc : (M.slice (Rect.unit (s := ⟨2, ![R, 512]⟩) off ![n, 512] inb) h).view.WordExact}
    {hdst : (M'.slice (Rect.unit (s := ⟨2, ![R', 512]⟩) off' ![n, 512] inb') h').view.WordExact}
    {hsem : DmaTarget.Typed .vmem (.dma sR) (.remote (Dev.tc e : Thread nD τ)
      ((M'.slice (Rect.unit (s := ⟨2, ![R', 512]⟩) off' ![n, 512] inb') h' : Memref sig .tc .vmem _ .f32) : Memref sig (Dev.tc e : Thread nD τ).2.kind .vmem ⟨2, ![n, 512]⟩ .f32) (.dma sS) hsc)} :
    iprop(records X K ∗ Arm c j ∗ Owes c (j :: l) ∗ At M c a n q G s ∗ Free M' (tgt j c) b n)
      ⊢ iprop(((Pend c (false, j) ∗ Owes c l) -∗ WP c (k ⟨⟩) Q)
        -∗ WP c (.op (.enqueueDma (M.slice (Rect.unit (s := ⟨2, ![R, 512]⟩) off ![n, 512] inb) h)
          (.remote (Dev.tc e : Thread nD τ) (M'.slice (Rect.unit (s := ⟨2, ![R', 512]⟩) off' ![n, 512] inb') h') (.dma sS) hsc) (.dma sR) hsrc hdst hsem) k) Q) := by
  unfold Free
  iintro ⟨HR, HA, HO, HS, ⟨%G₀, HD⟩⟩ Hk
  iapply (start_give X K c e j l q (tile n G (s + a)) (tile n G₀ (0 + b)) he hS hR hN
    hp
    ((Entails.of_eq (by rw [At_owns M' (tgt j c) fullShare G s' ho' inb' h', At_owns M c q G s ho inb h, hs])).trans hp')) $$ [HR HA HO HS HD]
  · isplitl [HR]; · iexact HR
    isplitl [HA]; · iexact HA
    isplitl [HO]; · iexact HO
    isplitl [HS]
    · iapply (Entails.of_eq (At_owns M c q G s ho inb h)); iexact HS
    iapply (Entails.of_eq (At_owns M' (tgt j c) fullShare G₀ 0 ho' inb' h')); iexact HD
  iexact Hk

end Bands

/-- Waiting for semaphore `k`, owing only copies waited for later: what it hands over, and its counter, back at
    zero for good. -/
theorem step_wait (c : Dev nD) (k : Bool × Fin 18) (l : List (Fin 18)) (hl : ∀ j ∈ l, lvk (some (some k)) < late j)
    {sm : DmaSem sig} (hsm : .dma sm = osem k) {sp sp' : Space} {t t' : Shape} {y y' : EltTy}
    {src : Memref sig (c : Thread nD τ).2.kind sp' t' y'} {κ' : Kind} {dst : Memref sig κ' sp t y} {hsrc : src.view.WordExact} {hdst : dst.view.WordExact}
    (hN : dst.view.dmaCredit = amt k.2)
    {α : Type} {Q : α → sProp 𝕄} {p : PUnit → Prog (TpuEff nD τ sig (Elt F) Λ₀ .tc) α} :
    iprop(records X K ∗ levAts L lv ∗ Pend c k ∗ Owes c l)
      ⊢ iprop(((semVal (cell c (some k)) 0 ∗ pay X c k ∗ Owes c l) -∗ WP c (p ⟨⟩) Q)
        -∗ WP c (.op (.waitDma2 sm src dst hsrc hdst) p) Q) := by
  unfold Pend Owes
  iintro ⟨#HR, #HL, ⟨Hat, Hc⟩, ⟨%W, Ho⟩⟩ Hk
  iapply (Rounds.wp_wait_rest_token 𝒱₀ ER (sched X) (c : Thread nD τ) none (κ := K (c, some k)) (sm := csem (some k)) (k' := amt k.2)
      (fun K' => (wpE_waitDma2_eq 𝒱₀ (c : Thread nD τ) none Set.univ K').trans (by rw [hN, hsm]; rfl)) (Set.mem_univ _) () (O := Owe c l) (W := W) (R := 0) (m := 0) (T := ∅)
      (by rw [Nat.zero_add, expect_dma])) $$ [Hc Ho Hat]
  · isplitr; · iapply (records_inv X K (c, some k)); iexact HR
    isplitl [Hc]; · iexact Hc
    isplitl [Ho]; · iexact Ho
    isplitr; · iapply (mayWait_cell c (some k) l hl); iexact HL
    iexact Hat
  iintro ⟨Ho, Hat, -, Hpay⟩
  ihave Hp := (Entails.of_eq (rest_dma X c k)) $$ Hpay
  imod (Rounds.cell_close ER (sched X) (Set.mem_univ (K (c, some k))) (fun h => h) (R := 0 + 1) (duties_later X (cell c (some k)))) $$ [Hat] with Hz
  · isplitr; · iapply (records_inv X K (c, some k)); iexact HR
    iexact Hat
  iapply Hk
  isplitl [Hz]; · iexact Hz
  isplitl [Hp]; · iexact Hp
  iexists _; iexact Ho

end Copies

end Cert.Butterfly

end
-- ==== Proof.Bands.lean ====
/-
The buffers cut into the eight blocks of a device and put together again, and the conjunctions over the eighteen copies.
-/
module

public import proofs.«01_k».proof.Proof.Steps

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A conjunction over the copies, written out. -/
theorem bigSep18 (Φ : Fin 18 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) := by
  rw [bigSep_univ_eq_bigSepL [0, 1, 2, 3, 4, 5, 6, 7, 8, 9, 10, 11, 12, 13, 14, 15, 16, 17] (by decide) (by decide)]
  simp only [bigSepL_cons_cons, bigSepL_singleton]
  rfl

section Blocks
variable (M : Memref sig .tc .vmem ⟨2, ![2048, 512]⟩ .f32) (d c : Dev nD) (q : PosShare TreeShare) (G : ℕ → ℕ → Elt F .f32)

/-- The eight blocks of 256 rows, in order. -/
def Eight : sProp 𝕄 := iprop(At M d 0 256 q G 0 ∗ At M d 256 256 q G 0 ∗ At M d 512 256 q G 0 ∗ At M d 768 256 q G 0
  ∗ At M d 1024 256 q G 0 ∗ At M d 1280 256 q G 0 ∗ At M d 1536 256 q G 0 ∗ At M d 1792 256 q G 0)

/-- All rows of a buffer are its eight blocks of 256 rows. -/
theorem eight_split : At M d 0 2048 q G 0 ⊢ Eight M d q G := by
  unfold Eight
  iintro H
  ihave H := (At_split M d q G 0 0 256 1792) $$ H; icases H with ⟨H0, H⟩
  ihave H := (At_split M d q G 0 (0 + 256) 256 1536) $$ H; icases H with ⟨H1, H⟩
  ihave H := (At_split M d q G 0 (0 + 256 + 256) 256 1280) $$ H; icases H with ⟨H2, H⟩
  ihave H := (At_split M d q G 0 (0 + 256 + 256 + 256) 256 1024) $$ H; icases H with ⟨H3, H⟩
  ihave H := (At_split M d q G 0 (0 + 256 + 256 + 256 + 256) 256 768) $$ H; icases H with ⟨H4, H⟩
  ihave H := (At_split M d q G 0 (0 + 256 + 256 + 256 + 256 + 256) 256 512) $$ H; icases H with ⟨H5, H⟩
  ihave H := (At_split M d q G 0 (0 + 256 + 256 + 256 + 256 + 256 + 256) 256 256) $$ H; icases H with ⟨H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The eight blocks of 256 rows are all rows of the buffer. -/
theorem eight_join : Eight M d q G ⊢ At M d 0 2048 q G 0 := by
  unfold Eight
  iintro ⟨H0, H1, H2, H3, H4, H5, H6, H7⟩
  ihave H := (At_join M d q G 0 1536 256 256) $$ [H6 H7]
  · isplitl [H6]; · iexact H6
    iexact H7
  ihave H := (At_join M d q G 0 1280 256 512) $$ [H5 H]
  · isplitl [H5]; · iexact H5
    iexact H
  ihave H := (At_join M d q G 0 1024 256 768) $$ [H4 H]
  · isplitl [H4]; · iexact H4
    iexact H
  ihave H := (At_join M d q G 0 768 256 1024) $$ [H3 H]
  · isplitl [H3]; · iexact H3
    iexact H
  ihave H := (At_join M d q G 0 512 256 1280) $$ [H2 H]
  · isplitl [H2]; · iexact H2
    iexact H
  ihave H := (At_join M d q G 0 256 256 1536) $$ [H1 H]
  · isplitl [H1]; · iexact H1
    iexact H
  iapply (At_join M d q G 0 0 256 1792)
  isplitl [H0]; · iexact H0
  iexact H

/-- The eight blocks by their part in the exchange seen from `c`. -/
def Own : sProp 𝕄 := iprop(At M d (aO c) 256 q G 0 ∗ At M d (aS c) 256 q G 0 ∗ At M d (aO (p1 c)) 256 q G 0 ∗ At M d (aS (p1 c)) 256 q G 0
  ∗ At M d (bO c) 256 q G 0 ∗ At M d (bS c) 256 q G 0 ∗ At M d (bO (p2 c)) 256 q G 0 ∗ At M d (bS (p2 c)) 256 q G 0)

/-- The eight blocks, named by the part that device `c` plays in them. -/
theorem own_split : Eight M d q G ⊢ Own M d c q G := by
  unfold Eight Own
  iintro ⟨H0, H1, H2, H3, H4, H5, H6, H7⟩
  rcases dev_cases c with rfl | rfl | rfl | rfl
  · isplitl [H0]; · iexact H0
    isplitl [H1]; · iexact H1
    isplitl [H2]; · iexact H2
    isplitl [H3]; · iexact H3
    isplitl [H4]; · iexact H4
    isplitl [H5]; · iexact H5
    isplitl [H7]; · iexact H7
    iexact H6
  · isplitl [H2]; · iexact H2
    isplitl [H3]; · iexact H3
    isplitl [H0]; · iexact H0
    isplitl [H1]; · iexact H1
    isplitl [H5]; · iexact H5
    isplitl [H4]; · iexact H4
    isplitl [H6]; · iexact H6
    iexact H7
  · isplitl [H3]; · iexact H3
    isplitl [H2]; · iexact H2
    isplitl [H1]; · iexact H1
    isplitl [H0]; · iexact H0
    isplitl [H6]; · iexact H6
    isplitl [H7]; · iexact H7
    isplitl [H5]; · iexact H5
    iexact H4
  · isplitl [H1]; · iexact H1
    isplitl [H0]; · iexact H0
    isplitl [H3]; · iexact H3
    isplitl [H2]; · iexact H2
    isplitl [H7]; · iexact H7
    isplitl [H6]; · iexact H6
    isplitl [H4]; · iexact H4
    iexact H5

/-- The blocks named by their part are the eight blocks. -/
theorem own_join : Own M d c q G ⊢ Eight M d q G := by
  unfold Eight Own
  iintro ⟨H0, H1, H2, H3, H4, H5, H6, H7⟩
  rcases dev_cases c with rfl | rfl | rfl | rfl
  · isplitl [H0]; · iexact H0
    isplitl [H1]; · iexact H1
    isplitl [H2]; · iexact H2
    isplitl [H3]; · iexact H3
    isplitl [H4]; · iexact H4
    isplitl [H5]; · iexact H5
    isplitl [H7]; · iexact H7
    iexact H6
  · isplitl [H2]; · iexact H2
    isplitl [H3]; · iexact H3
    isplitl [H0]; · iexact H0
    isplitl [H1]; · iexact H1
    isplitl [H5]; · iexact H5
    isplitl [H4]; · iexact H4
    isplitl [H6]; · iexact H6
    iexact H7
  · isplitl [H3]; · iexact H3
    isplitl [H2]; · iexact H2
    isplitl [H1]; · iexact H1
    isplitl [H0]; · iexact H0
    isplitl [H7]; · iexact H7
    isplitl [H6]; · iexact H6
    isplitl [H4]; · iexact H4
    iexact H5
  · isplitl [H1]; · iexact H1
    isplitl [H0]; · iexact H0
    isplitl [H3]; · iexact H3
    isplitl [H2]; · iexact H2
    isplitl [H6]; · iexact H6
    isplitl [H7]; · iexact H7
    isplitl [H5]; · iexact H5
    iexact H4

/-- The whole buffer is the eight blocks, -/
theorem own_of_whole : At M d 0 2048 q G 0 ⊢ Own M d c q G := (eight_split M d q G).trans (own_split M d c q G)
/-- … and back. -/
theorem whole_of_own : Own M d c q G ⊢ At M d 0 2048 q G 0 := (own_join M d c q G).trans (eight_join M d q G)

end Blocks

end Cert.Butterfly

end
-- ==== Proof.Start.lean ====
/-
The start of the kernel: the barrier and copy 0 (part 2 of the kernel).
-/
module

public import proofs.«01_k».proof.Proof.Steps

@[expose] public section

set_option maxRecDepth 65536
set_option maxHeartbeats 1600000

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → ℕ → ℕ → Elt F .f32) (K : Dev nD × Key → ℕ) (c : Dev nD)

/-- The device signals both partners, waits for their signals, and starts copy 0. -/
theorem part2 (w0 w1 w2 w3 w4 : BitVec 32) {Q : PUnit → sProp 𝕄} :
    iprop(records X K ∗ levAts L lv ∗ atPos ER (cell c none) 0 ∅ 0 ∗ cred (tallyAt (cell c none) () 2) ∗ dutyTok ER (cell (p1 c) none) 0 false ∗ dutyTok ER (cell (p2 c) none) 0 true ∗ barPay (p1 c) false ∗ barPay (p2 c) true ∗ (∃ W : Waits sig Unit, owes (c : Thread nD τ) (O₀ c) W) ∗ Arm c 0 ∗ At xM c (aS (p1 c)) 256 fullShare (X c) 0)
      ⊢ iprop(((Owes c [2, 1, 3, 4, 5, 6, 7, 8, 9, 10, 11, 12, 13, 14, 15, 16, 17] ∗ semVal (cell c none) 0 ∗ Free (F := F) sM1 (p1 c) 0 256 ∗ Free (F := F) sM5 (p1 c) 0 128 ∗ Free (F := F) sM5 (p1 c) 128 128 ∗ Free (F := F) oM (p1 c) (aO c) 256 ∗ Free (F := F) oM (p1 c) (aS c) 128 ∗ Free (F := F) oM (p1 c) (aS c + 128) 128 ∗ Free (F := F) sM2 (p2 c) 0 256 ∗ Free (F := F) sM3 (p2 c) 0 256 ∗ Free (F := F) sM4 (p2 c) 0 128 ∗ Free (F := F) sM4 (p2 c) 128 128 ∗ Free (F := F) oM (p2 c) (bO c) 256 ∗ Free (F := F) oM (p2 c) (bS c) 128 ∗ Free (F := F) oM (p2 c) (bS c + 128) 128 ∗ Pend c (false, 0)) -∗ Q ⟨⟩)
        -∗ WP c (k0_part2 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c w0 w1 w2 w3 w4) Q) := by
  rw [k0_part2_eq_skeleton]; unfold k0_part2_skel
  simp only [semSignalWord, semWaitWord, Prog.lift, Prog.bind_op, Prog.bind_ret, Prog.pure_eq_ret]
  iintro ⟨#HR, #HL, atB, cB, tB1, tB2, lent1, lent2, HO, A0, xs0⟩ Hk
  icases HO with ⟨%W, HO⟩
  simp only [dev1 c, dev2 c]
  iapply (Rounds.wp_signal 𝒱₀ ER (sched X) (c : Thread nD τ) none (dst := (p1 c : Thread nD τ)) (κ := K (p1 c, none))
    (d := false) (show false ∈ (sched X).duties (cell (p1 c) none) 0 by rw [duties_bar]; exact Finset.mem_univ _) ((amount_bar X (p1 c) false).trans (by decide)) () (O₁ c) rfl) $$ [HO tB1 lent1]
  · isplitr; · iapply (records_inv X K (p1 c, none)); iexact HR
    isplitl [HO]; · iexact HO
    isplitl [tB1]; · iexact tB1
    isplitl [lent1]; · iapply (show barPay (p1 c) false ⊢ (sched X).payload ((p1 c : Thread nD τ), SemLoc.reg barS) 0 false from Entails.of_eq (payload_bar X (p1 c) false).symm); iexact lent1
    iapply (records_reached X K (p1 c, none)); iexact HR
  iintro HO
  unfold O₁
  iapply (Rounds.wp_signal 𝒱₀ ER (sched X) (c : Thread nD τ) none (dst := (p2 c : Thread nD τ)) (κ := K (p2 c, none))
    (d := true) (show true ∈ (sched X).duties (cell (p2 c) none) 0 by rw [duties_bar]; exact Finset.mem_univ _) ((amount_bar X (p2 c) true).trans (by decide)) () (Owe c order) rfl) $$ [HO tB2 lent2]
  · isplitr; · iapply (records_inv X K (p2 c, none)); iexact HR
    isplitl [HO]; · iexact HO
    isplitl [tB2]; · iexact tB2
    isplitl [lent2]; · iapply (show barPay (p2 c) true ⊢ (sched X).payload ((p2 c : Thread nD τ), SemLoc.reg barS) 0 true from Entails.of_eq (payload_bar X (p2 c) true).symm); iexact lent2
    iapply (records_reached X K (p2 c, none)); iexact HR
  iintro HO
  iapply (Rounds.wp_wait_rest_token 𝒱₀ ER (sched X) (c : Thread nD τ) none (κ := K (c, none))
    (wpE_semWait_eq 𝒱₀ (c : Thread nD τ) none Set.univ) (Set.mem_univ _) () (O := Owe c order) (W := W) (R := 0) (m := 0) (T := ∅)
    ((expect_bar X c).trans rfl).symm) $$ [cB HO atB]
  · isplitr; · iapply (records_inv X K (c, none)); iexact HR
    isplitl [cB]; · iexact cB
    isplitl [HO]; · iexact HO
    isplitr; · iapply (mayWait_cell c none order (by decide)); iexact HL
    iexact atB
  iintro ⟨HO, atB, -, Hp⟩
  ihave Hp := (show bigSep ((sched X).duties ((c : Thread nD τ), SemLoc.reg barS) 0 \ ∅) (fun d => (sched X).payload ((c : Thread nD τ), SemLoc.reg barS) 0 d) ⊢ iprop(barPay c false ∗ barPay c true)
    from Entails.of_eq (rest_bar X c)) $$ Hp
  imod (Rounds.cell_close ER (sched X) (Set.mem_univ (K (c, none))) (fun h => h) (R := 0 + 1) (duties_later X (cell c none))) $$ [atB] with ZB
  · isplitr; · iapply (records_inv X K (c, none)); iexact HR
    iexact atB
  ihave Hp := (show iprop(barPay (F := F) c false ∗ barPay c true) ⊢ iprop((Free (F := F) sM0 (p1 c) 0 256 ∗ Free (F := F) sM1 (p1 c) 0 256 ∗ Free (F := F) sM5 (p1 c) 0 128 ∗ Free (F := F) sM5 (p1 c) 128 128 ∗ Free (F := F) oM (p1 c) (aO c) 256 ∗ Free (F := F) oM (p1 c) (aS c) 128 ∗ Free (F := F) oM (p1 c) (aS c + 128) 128)
    ∗ Free (F := F) sM2 (p2 c) 0 256 ∗ Free (F := F) sM3 (p2 c) 0 256 ∗ Free (F := F) sM4 (p2 c) 0 128 ∗ Free (F := F) sM4 (p2 c) 128 128 ∗ Free (F := F) oM (p2 c) (bO c) 256 ∗ Free (F := F) oM (p2 c) (bS c) 128 ∗ Free (F := F) oM (p2 c) (bS c + 128) 128) from .rfl) $$ Hp
  icases Hp with ⟨⟨d0, d1, d6, d7, d12, d14, d16⟩, d2, d3, d4, d5, d13, d15, d17⟩
  ihave HO := (show (owes (c : Thread nD τ) (Owe c order) (insert (SemLoc.reg barS, ()) W) : sProp 𝕄) ⊢ Owes c [0, 2, 1, 3, 4, 5, 6, 7, 8, 9, 10, 11, 12, 13, 14, 15, 16, 17] from by unfold Owes; iintro H; iexists _; iexact H) $$ HO
  iapply (step_copy X K (n := 256) xM sM0 c _ 0 [2, 1, 3, 4, 5, 6, 7, 8, 9, 10, 11, 12, 13, 14, 15, 16, 17] fullShare (X c) 0 (aS (p1 c)) (dev3 c) (off1 c) rfl (by omega) rfl rfl (credit256 (by decide))
    .rfl (by show At sM0 (p1 c) 0 256 fullShare (X c) (aS (p1 c)) ⊢ At sM0 (p1 c) 0 256 fullShare (X (p1 (p1 c))) (aS (p1 c)); rw [p1_p1])) $$ [A0 HO xs0 d0]
  · isplitr; · iexact HR
    isplitl [A0]; · iexact A0
    isplitl [HO]; · iexact HO
    isplitl [xs0]; · iexact xs0
    iexact d0
  iintro ⟨S0, HO⟩
  iapply (step_ret c _); iapply Hk
  isplitl [HO]; · iexact HO
  isplitl [ZB]; · iexact ZB
  isplitl [d1]; · iexact d1
  isplitl [d6]; · iexact d6
  isplitl [d7]; · iexact d7
  isplitl [d12]; · iexact d12
  isplitl [d14]; · iexact d14
  isplitl [d16]; · iexact d16
  isplitl [d2]; · iexact d2
  isplitl [d3]; · iexact d3
  isplitl [d4]; · iexact d4
  isplitl [d5]; · iexact d5
  isplitl [d13]; · iexact d13
  isplitl [d15]; · iexact d15
  isplitl [d17]; · iexact d17
  iexact S0

end Parts

end Cert.Butterfly

end
-- ==== Proof.First.lean ====
/-
The first exchange: parts 3 to 6 of the kernel.
-/
module

public import proofs.«01_k».proof.Proof.Steps

@[expose] public section

set_option maxRecDepth 65536
set_option maxHeartbeats 1600000

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → ℕ → ℕ → Elt F .f32) (K : Dev nD × Key → ℕ) (c : Dev nD)

/-- Copies 2, 1 and 3 start; copy 0 of the partner has landed; the first sum is formed. -/
theorem part3 (w0 w1 w2 : BitVec 32) {Q : FVec F S128x512 .f32 → sProp 𝕄} :
    iprop(records X K ∗ levAts L lv ∗ Arm c 2 ∗ Arm c 1 ∗ Arm c 3 ∗ Pend c (true, 0) ∗ Owes c [2, 1, 3, 4, 5, 6, 7, 8, 9, 10, 11, 12, 13, 14, 15, 16, 17] ∗ At xM c (bS (p2 c)) 256 fullShare (X c) 0 ∗ At xM c (aO (p1 c)) 256 fullShare (X c) 0 ∗ At xM c (bO (p2 c)) 256 fullShare (X c) 0 ∗ Free (F := F) sM2 (p2 c) 0 256 ∗ Free (F := F) sM1 (p1 c) 0 256 ∗ Free (F := F) sM3 (p2 c) 0 256 ∗ At xM c (aS c) 128 fullShare (X c) 0)
      ⊢ iprop(((Owes c [4, 5, 6, 7, 8, 9, 10, 11, 12, 13, 14, 15, 16, 17] ∗ At xM c (aS c) 128 fullShare (X c) 0 ∗ Pend c (false, 2) ∗ Pend c (false, 1) ∗ Pend c (false, 3) ∗ semVal (cell c (some (true, 0))) 0 ∗ At sM0 c 0 128 fullShare (X (p1 c)) (aS c) ∗ At sM0 c (0 + 128) 128 fullShare (X (p1 c)) (aS c)) -∗ Q (tile 128 (S1A X c) (0 + aS c)))
        -∗ WP c (k0_part3 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c w0 w1 w2) Q) := by
  rw [k0_part3_eq_skeleton]; unfold k0_part3_skel
  simp only [Prog.lift, Prog.bind_op, Prog.bind_ret, Prog.pure_eq_ret]
  iintro ⟨#HR, #HL, A2, A1, A3, R0, HO, xs2, xs1, xs3, d2, d1, d3, xa0⟩ Hk
  iapply (step_copy X K (n := 256) xM sM2 c _ 2 [1, 3, 4, 5, 6, 7, 8, 9, 10, 11, 12, 13, 14, 15, 16, 17] fullShare (X c) 0 (bS (p2 c)) (dev4 c) (off2 c) rfl (by omega) rfl rfl (credit256 (by decide))
    .rfl (by show At sM2 (p2 c) 0 256 fullShare (X c) (bS (p2 c)) ⊢ At sM2 (p2 c) 0 256 fullShare (X (p2 (p2 c))) (bS (p2 c)); rw [p2_p2])) $$ [A2 HO xs2 d2]
  · isplitr; · iexact HR
    isplitl [A2]; · iexact A2
    isplitl [HO]; · iexact HO
    isplitl [xs2]; · iexact xs2
    iexact d2
  iintro ⟨S2, HO⟩
  iapply (step_copy X K (n := 256) xM sM1 c _ 1 [3, 4, 5, 6, 7, 8, 9, 10, 11, 12, 13, 14, 15, 16, 17] fullShare (X c) 0 (aO (p1 c)) (dev5 c) (off3 c) rfl (by omega) rfl rfl (credit256 (by decide))
    .rfl (by show At sM1 (p1 c) 0 256 fullShare (X c) (aO (p1 c)) ⊢ At sM1 (p1 c) 0 256 fullShare (X (p1 (p1 c))) (aO (p1 c)); rw [p1_p1])) $$ [A1 HO xs1 d1]
  · isplitr; · iexact HR
    isplitl [A1]; · iexact A1
    isplitl [HO]; · iexact HO
    isplitl [xs1]; · iexact xs1
    iexact d1
  iintro ⟨S1, HO⟩
  iapply (step_copy X K (n := 256) xM sM3 c _ 3 [4, 5, 6, 7, 8, 9, 10, 11, 12, 13, 14, 15, 16, 17] fullShare (X c) 0 (bO (p2 c)) (dev6 c) (off4 c) rfl (by omega) rfl rfl (credit256 (by decide))
    .rfl (by show At sM3 (p2 c) 0 256 fullShare (X c) (bO (p2 c)) ⊢ At sM3 (p2 c) 0 256 fullShare (X (p2 (p2 c))) (bO (p2 c)); rw [p2_p2])) $$ [A3 HO xs3 d3]
  · isplitr; · iexact HR
    isplitl [A3]; · iexact A3
    isplitl [HO]; · iexact HO
    isplitl [xs3]; · iexact xs3
    iexact d3
  iintro ⟨S3, HO⟩
  iapply (step_wait X K c (true, 0) [4, 5, 6, 7, 8, 9, 10, 11, 12, 13, 14, 15, 16, 17] (by decide) (hsm := rfl) (hN := credit256 (j := 0) (by decide))) $$ [R0 HO]
  · isplitr; · iexact HR
    isplitr; · iexact HL
    isplitl [R0]; · iexact R0
    iexact HO
  iintro ⟨ZR0, Hp, HO⟩
  ihave Hp := (show pay X c (true, 0) ⊢ At sM0 c 0 256 fullShare (X (p1 c)) (aS c) from .rfl) $$ Hp
  irename Hp => s0
  ihave s0 := (At_split sM0 c fullShare (X (p1 c)) (aS c) 0 128 128) $$ s0; icases s0 with ⟨s0a, s0b⟩
  iapply (step_load (n := 128) xM c fullShare (X c) 0 (off5 c)) $$ xa0; iintro xa0
  iapply (step_load (n := 128) sM0 c fullShare (X (p1 c)) (aS c) rfl) $$ s0a; iintro s0a
  rw [show k0_pay1 (tile 128 (X c) (0 + aS c)) (tile 128 (X (p1 c)) (aS c + 0)) = tile 128 (S1A X c) (0 + aS c) from add_tiles (X c) (X (p1 c)) (by omega) (by omega)]
  iapply (step_ret c _); iapply Hk
  isplitl [HO]; · iexact HO
  isplitl [xa0]; · iexact xa0
  isplitl [S2]; · iexact S2
  isplitl [S1]; · iexact S1
  isplitl [S3]; · iexact S3
  isplitl [ZR0]; · iexact ZR0
  isplitl [s0a]; · iexact s0a
  iexact s0b

/-- The first sum is stored and handed to the other partner with copy 4; likewise the second with copy 5. -/
theorem part4 (w0 w1 : BitVec 32) {Q : PUnit → sProp 𝕄} :
    iprop(records X K ∗ levAts L lv ∗ Arm c 4 ∗ Arm c 5 ∗ Owes c [4, 5, 6, 7, 8, 9, 10, 11, 12, 13, 14, 15, 16, 17] ∗ Free (F := F) oM c (aS c) 128 ∗ Free (F := F) oM c (aS c + 128) 128 ∗ Free (F := F) sM4 (p2 c) 0 128 ∗ Free (F := F) sM4 (p2 c) 128 128 ∗ At xM c (aS c + 128) 128 fullShare (X c) 0 ∗ At sM0 c (0 + 128) 128 fullShare (X (p1 c)) (aS c))
      ⊢ iprop(((Owes c [6, 7, 8, 9, 10, 11, 12, 13, 14, 15, 16, 17] ∗ At xM c (aS c + 128) 128 fullShare (X c) 0 ∗ At sM0 c (0 + 128) 128 fullShare (X (p1 c)) (aS c) ∗ Pend c (false, 4) ∗ Pend c (false, 5)) -∗ Q ⟨⟩)
        -∗ WP c (k0_part4 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c w0 w1 (tile 128 (S1A X c) (0 + aS c))) Q) := by
  rw [k0_part4_eq_skeleton]; unfold k0_part4_skel
  simp only [Prog.lift, Prog.bind_op, Prog.bind_ret, Prog.pure_eq_ret]
  iintro ⟨#HR, #HL, A4, A5, HO, oa0, oa1, d4, d5, xa1, s0b⟩ Hk
  ihave oa0 := (Free_elim (F := F) oM c (aS c) 128) $$ oa0; icases oa0 with ⟨%G1, oa0⟩
  iapply (step_load (n := 128) oM c fullShare G1 0 (off5 c)) $$ oa0; iintro oa0
  iapply (step_store (n := 128) oM c G1 0 (S1A X c) 0 (off5 c) rfl) $$ oa0; iintro oa0
  iapply (step_give X K (n := 128) oM sM4 c _ 4 [5, 6, 7, 8, 9, 10, 11, 12, 13, 14, 15, 16, 17] fullShare (S1A X c) 0 (aS c) (dev7 c) (off6 c) rfl (by omega) rfl rfl (credit128 (by decide))
    rfl (by show iprop(At sM4 (p2 c) 0 128 fullShare (S1A X c) (aS c) ∗ At oM c (aS c) 128 fullShare (S1A X c) 0) ⊢ iprop(At sM4 (p2 c) 0 128 fullShare (S1A X (p2 (p2 c))) (aO (p2 c)) ∗ Free oM (p2 (p2 c)) (aO (p2 c)) 128); rw [p2_p2, aO_p2]; exact sep_mono_right (At_free oM c (S1A X c) 0 (aS c) 128))) $$ [A4 HO oa0 d4]
  · isplitr; · iexact HR
    isplitl [A4]; · iexact A4
    isplitl [HO]; · iexact HO
    isplitl [oa0]; · iexact oa0
    iexact d4
  iintro ⟨S4, HO⟩
  iapply (step_load (n := 128) xM c fullShare (X c) 0 (off7 c)) $$ xa1; iintro xa1
  iapply (step_load (n := 128) sM0 c fullShare (X (p1 c)) (aS c) rfl) $$ s0b; iintro s0b
  ihave oa1 := (Free_elim (F := F) oM c (aS c + 128) 128) $$ oa1; icases oa1 with ⟨%G2, oa1⟩
  iapply (step_load (n := 128) oM c fullShare G2 0 (off7 c)) $$ oa1; iintro oa1
  iapply (step_store (n := 128) oM c G2 0 (S1A X c) 0 (off7 c) (add_tiles (X c) (X (p1 c)) (by omega) (by omega))) $$ oa1; iintro oa1
  iapply (step_give X K (n := 128) oM sM4 c _ 5 [6, 7, 8, 9, 10, 11, 12, 13, 14, 15, 16, 17] fullShare (S1A X c) 0 (aS c) (dev8 c) (off8 c) rfl (by omega) rfl rfl (credit128 (by decide))
    rfl (by show iprop(At sM4 (p2 c) 128 128 fullShare (S1A X c) (aS c) ∗ At oM c (aS c + 128) 128 fullShare (S1A X c) 0) ⊢ iprop(At sM4 (p2 c) 128 128 fullShare (S1A X (p2 (p2 c))) (aO (p2 c)) ∗ Free oM (p2 (p2 c)) (aO (p2 c) + 128) 128); rw [p2_p2, aO_p2]; exact sep_mono_right (At_free oM c (S1A X c) 0 (aS c + 128) 128))) $$ [A5 HO oa1 d5]
  · isplitr; · iexact HR
    isplitl [A5]; · iexact A5
    isplitl [HO]; · iexact HO
    isplitl [oa1]; · iexact oa1
    iexact d5
  iintro ⟨S5, HO⟩
  iapply (step_ret c _); iapply Hk
  isplitl [HO]; · iexact HO
  isplitl [xa1]; · iexact xa1
  isplitl [s0b]; · iexact s0b
  isplitl [S4]; · iexact S4
  iexact S5

/-- Copy 2 of the partner has landed; the third sum is stored and handed on with copy 6; the fourth is formed. -/
theorem part5 (w0 w1 : BitVec 32) {Q : FVec F S128x512 .f32 → sProp 𝕄} :
    iprop(records X K ∗ levAts L lv ∗ Arm c 6 ∗ Pend c (true, 2) ∗ Owes c [6, 7, 8, 9, 10, 11, 12, 13, 14, 15, 16, 17] ∗ Free (F := F) oM c (bS c) 128 ∗ Free (F := F) sM5 (p1 c) 0 128 ∗ At xM c (bS c) 128 fullShare (X c) 0 ∗ At xM c (bS c + 128) 128 fullShare (X c) 0)
      ⊢ iprop(((Owes c [7, 8, 9, 10, 11, 12, 13, 14, 15, 16, 17] ∗ At xM c (bS c) 128 fullShare (X c) 0 ∗ At xM c (bS c + 128) 128 fullShare (X c) 0 ∗ semVal (cell c (some (true, 2))) 0 ∗ At sM2 c 0 128 fullShare (X (p2 c)) (bS c) ∗ At sM2 c (0 + 128) 128 fullShare (X (p2 c)) (bS c) ∗ Pend c (false, 6)) -∗ Q (tile 128 (S1B X c) (0 + (bS c + 128))))
        -∗ WP c (k0_part5 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c w0 w1) Q) := by
  rw [k0_part5_eq_skeleton]; unfold k0_part5_skel
  simp only [Prog.lift, Prog.bind_op, Prog.bind_ret, Prog.pure_eq_ret]
  iintro ⟨#HR, #HL, A6, R2, HO, ob0, d6, xb0, xb1⟩ Hk
  iapply (step_wait X K c (true, 2) [6, 7, 8, 9, 10, 11, 12, 13, 14, 15, 16, 17] (by decide) (hsm := rfl) (hN := credit256 (j := 2) (by decide))) $$ [R2 HO]
  · isplitr; · iexact HR
    isplitr; · iexact HL
    isplitl [R2]; · iexact R2
    iexact HO
  iintro ⟨ZR2, Hp, HO⟩
  ihave Hp := (show pay X c (true, 2) ⊢ At sM2 c 0 256 fullShare (X (p2 c)) (bS c) from .rfl) $$ Hp
  irename Hp => s2
  ihave s2 := (At_split sM2 c fullShare (X (p2 c)) (bS c) 0 128 128) $$ s2; icases s2 with ⟨s2a, s2b⟩
  iapply (step_load (n := 128) xM c fullShare (X c) 0 (off9 c)) $$ xb0; iintro xb0
  iapply (step_load (n := 128) sM2 c fullShare (X (p2 c)) (bS c) rfl) $$ s2a; iintro s2a
  ihave ob0 := (Free_elim (F := F) oM c (bS c) 128) $$ ob0; icases ob0 with ⟨%G1, ob0⟩
  iapply (step_load (n := 128) oM c fullShare G1 0 (off9 c)) $$ ob0; iintro ob0
  iapply (step_store (n := 128) oM c G1 0 (S1B X c) 0 (off9 c) (add_tiles (X c) (X (p2 c)) (by omega) (by omega))) $$ ob0; iintro ob0
  iapply (step_give X K (n := 128) oM sM5 c _ 6 [7, 8, 9, 10, 11, 12, 13, 14, 15, 16, 17] fullShare (S1B X c) 0 (bS c) (dev9 c) (off10 c) rfl (by omega) rfl rfl (credit128 (by decide))
    rfl (by show iprop(At sM5 (p1 c) 0 128 fullShare (S1B X c) (bS c) ∗ At oM c (bS c) 128 fullShare (S1B X c) 0) ⊢ iprop(At sM5 (p1 c) 0 128 fullShare (S1B X (p1 (p1 c))) (bO (p1 c)) ∗ Free oM (p1 (p1 c)) (bO (p1 c)) 128); rw [p1_p1, bO_p1]; exact sep_mono_right (At_free oM c (S1B X c) 0 (bS c) 128))) $$ [A6 HO ob0 d6]
  · isplitr; · iexact HR
    isplitl [A6]; · iexact A6
    isplitl [HO]; · iexact HO
    isplitl [ob0]; · iexact ob0
    iexact d6
  iintro ⟨S6, HO⟩
  iapply (step_load (n := 128) xM c fullShare (X c) 0 (off11 c)) $$ xb1; iintro xb1
  iapply (step_load (n := 128) sM2 c fullShare (X (p2 c)) (bS c) rfl) $$ s2b; iintro s2b
  rw [show k0_pay4 (tile 128 (X c) (0 + (bS c + 128))) (tile 128 (X (p2 c)) (bS c + (0 + 128))) = tile 128 (S1B X c) (0 + (bS c + 128)) from add_tiles (X c) (X (p2 c)) (by omega) (by omega)]
  iapply (step_ret c _); iapply Hk
  isplitl [HO]; · iexact HO
  isplitl [xb0]; · iexact xb0
  isplitl [xb1]; · iexact xb1
  isplitl [ZR2]; · iexact ZR2
  isplitl [s2a]; · iexact s2a
  isplitl [s2b]; · iexact s2b
  iexact S6

/-- The fourth sum is stored and handed on with copy 7; copy 1 of the partner has landed, and its sum is stored. -/
theorem part6 (w0 w1 w2 w3 : BitVec 32) {Q : PUnit → sProp 𝕄} :
    iprop(records X K ∗ levAts L lv ∗ Arm c 7 ∗ Pend c (true, 1) ∗ Owes c [7, 8, 9, 10, 11, 12, 13, 14, 15, 16, 17] ∗ Free (F := F) oM c (bS c + 128) 128 ∗ Free (F := F) sM5 (p1 c) 128 128 ∗ At xM c (aO c) 256 fullShare (X c) 0 ∗ Free (F := F) oM c (aO c) 256)
      ⊢ iprop(((Owes c [8, 9, 10, 11, 12, 13, 14, 15, 16, 17] ∗ At xM c (aO c) 256 fullShare (X c) 0 ∗ At oM c (aO c) 256 fullShare (S1A X c) 0 ∗ Pend c (false, 7) ∗ semVal (cell c (some (true, 1))) 0 ∗ At sM1 c 0 256 fullShare (X (p1 c)) (aO c)) -∗ Q ⟨⟩)
        -∗ WP c (k0_part6 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c w0 w1 w2 w3 (tile 128 (S1B X c) (0 + (bS c + 128)))) Q) := by
  rw [k0_part6_eq_skeleton]; unfold k0_part6_skel
  simp only [Prog.lift, Prog.bind_op, Prog.bind_ret, Prog.pure_eq_ret]
  iintro ⟨#HR, #HL, A7, R1, HO, ob1, d7, xaO, oaO⟩ Hk
  ihave ob1 := (Free_elim (F := F) oM c (bS c + 128) 128) $$ ob1; icases ob1 with ⟨%G1, ob1⟩
  iapply (step_load (n := 128) oM c fullShare G1 0 (off11 c)) $$ ob1; iintro ob1
  iapply (step_store (n := 128) oM c G1 0 (S1B X c) 0 (off11 c) rfl) $$ ob1; iintro ob1
  iapply (step_give X K (n := 128) oM sM5 c _ 7 [8, 9, 10, 11, 12, 13, 14, 15, 16, 17] fullShare (S1B X c) 0 (bS c) (dev10 c) (off12 c) rfl (by omega) rfl rfl (credit128 (by decide))
    rfl (by show iprop(At sM5 (p1 c) 128 128 fullShare (S1B X c) (bS c) ∗ At oM c (bS c + 128) 128 fullShare (S1B X c) 0) ⊢ iprop(At sM5 (p1 c) 128 128 fullShare (S1B X (p1 (p1 c))) (bO (p1 c)) ∗ Free oM (p1 (p1 c)) (bO (p1 c) + 128) 128); rw [p1_p1, bO_p1]; exact sep_mono_right (At_free oM c (S1B X c) 0 (bS c + 128) 128))) $$ [A7 HO ob1 d7]
  · isplitr; · iexact HR
    isplitl [A7]; · iexact A7
    isplitl [HO]; · iexact HO
    isplitl [ob1]; · iexact ob1
    iexact d7
  iintro ⟨S7, HO⟩
  iapply (step_wait X K c (true, 1) [8, 9, 10, 11, 12, 13, 14, 15, 16, 17] (by decide) (hsm := rfl) (hN := credit256 (j := 1) (by decide))) $$ [R1 HO]
  · isplitr; · iexact HR
    isplitr; · iexact HL
    isplitl [R1]; · iexact R1
    iexact HO
  iintro ⟨ZR1, Hp, HO⟩
  ihave Hp := (show pay X c (true, 1) ⊢ At sM1 c 0 256 fullShare (X (p1 c)) (aO c) from .rfl) $$ Hp
  irename Hp => s1
  iapply (step_load (n := 256) xM c fullShare (X c) 0 (off13 c)) $$ xaO; iintro xaO
  iapply (step_load (n := 256) sM1 c fullShare (X (p1 c)) (aO c) rfl) $$ s1; iintro s1
  ihave oaO := (Free_elim (F := F) oM c (aO c) 256) $$ oaO; icases oaO with ⟨%G2, oaO⟩
  iapply (step_load (n := 256) oM c fullShare G2 0 (off13 c)) $$ oaO; iintro oaO
  iapply (step_store (n := 256) oM c G2 0 (S1A X c) 0 (off13 c) (add_tiles (X c) (X (p1 c)) (by omega) (by omega))) $$ oaO; iintro oaO
  iapply (step_ret c _); iapply Hk
  isplitl [HO]; · iexact HO
  isplitl [xaO]; · iexact xaO
  isplitl [oaO]; · iexact oaO
  isplitl [S7]; · iexact S7
  isplitl [ZR1]; · iexact ZR1
  iexact s1

end Parts

end Cert.Butterfly

end
-- ==== Proof.Second.lean ====
/-
The second exchange: parts 7 to 10 of the kernel.
-/
module

public import proofs.«01_k».proof.Proof.Steps

@[expose] public section

set_option maxRecDepth 65536
set_option maxHeartbeats 1600000

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → ℕ → ℕ → Elt F .f32) (K : Dev nD × Key → ℕ) (c : Dev nD)

/-- Copy 3 of the partner has landed, and its sum is stored; copy 4 has landed, the sum of all four inputs is stored and sent back with copy 8. -/
theorem part7 (w0 w1 w2 : BitVec 32) {Q : PUnit → sProp 𝕄} :
    iprop(records X K ∗ levAts L lv ∗ Arm c 8 ∗ Pend c (true, 3) ∗ Pend c (true, 4) ∗ Owes c [8, 9, 10, 11, 12, 13, 14, 15, 16, 17] ∗ At xM c (bO c) 256 fullShare (X c) 0 ∗ Free (F := F) oM c (bO c) 256 ∗ At oM c (aO c) 256 fullShare (S1A X c) 0)
      ⊢ iprop(((Owes c [9, 10, 11, 12, 13, 14, 15, 16, 17] ∗ At xM c (bO c) 256 fullShare (X c) 0 ∗ At oM c (bO c) 256 fullShare (S1B X c) 0 ∗ semVal (cell c (some (true, 3))) 0 ∗ At sM3 c 0 256 fullShare (X (p2 c)) (bO c) ∗ semVal (cell c (some (true, 4))) 0 ∗ At sM4 c 0 128 fullShare (S1A X (p2 c)) (aO c) ∗ At oM c (aO c + 128) 128 fullShare (S1A X c) 0 ∗ At oM c (aO c) 128 fullShare.right (FIN X) 0 ∗ Pend c (false, 8)) -∗ Q ⟨⟩)
        -∗ WP c (k0_part7 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c w0 w1 w2) Q) := by
  rw [k0_part7_eq_skeleton]; unfold k0_part7_skel
  simp only [Prog.lift, Prog.bind_op, Prog.bind_ret, Prog.pure_eq_ret]
  iintro ⟨#HR, #HL, A8, R3, R4, HO, xbO, obO, oaO⟩ Hk
  iapply (step_wait X K c (true, 3) [8, 9, 10, 11, 12, 13, 14, 15, 16, 17] (by decide) (hsm := rfl) (hN := credit256 (j := 3) (by decide))) $$ [R3 HO]
  · isplitr; · iexact HR
    isplitr; · iexact HL
    isplitl [R3]; · iexact R3
    iexact HO
  iintro ⟨ZR3, Hp, HO⟩
  ihave Hp := (show pay X c (true, 3) ⊢ At sM3 c 0 256 fullShare (X (p2 c)) (bO c) from .rfl) $$ Hp
  irename Hp => s3
  iapply (step_load (n := 256) xM c fullShare (X c) 0 (off14 c)) $$ xbO; iintro xbO
  iapply (step_load (n := 256) sM3 c fullShare (X (p2 c)) (bO c) rfl) $$ s3; iintro s3
  ihave obO := (Free_elim (F := F) oM c (bO c) 256) $$ obO; icases obO with ⟨%G1, obO⟩
  iapply (step_load (n := 256) oM c fullShare G1 0 (off14 c)) $$ obO; iintro obO
  iapply (step_store (n := 256) oM c G1 0 (S1B X c) 0 (off14 c) (add_tiles (X c) (X (p2 c)) (by omega) (by omega))) $$ obO; iintro obO
  iapply (step_wait X K c (true, 4) [8, 9, 10, 11, 12, 13, 14, 15, 16, 17] (by decide) (hsm := rfl) (hN := credit128 (j := 4) (by decide))) $$ [R4 HO]
  · isplitr; · iexact HR
    isplitr; · iexact HL
    isplitl [R4]; · iexact R4
    iexact HO
  iintro ⟨ZR4, Hp, HO⟩
  ihave Hp := (show pay X c (true, 4) ⊢ iprop(At sM4 c 0 128 fullShare (S1A X (p2 c)) (aO c) ∗ Free (F := F) oM (p2 c) (aO c) 128) from .rfl) $$ Hp
  icases Hp with ⟨s4a, d8⟩
  ihave oaO := (At_split oM c fullShare (S1A X c) 0 (aO c) 128 128) $$ oaO; icases oaO with ⟨oa0, oa1⟩
  iapply (step_load (n := 128) oM c fullShare (S1A X c) 0 (off15 c)) $$ oa0; iintro oa0
  iapply (step_load (n := 128) sM4 c fullShare (S1A X (p2 c)) (aO c) rfl) $$ s4a; iintro s4a
  iapply (step_load (n := 128) oM c fullShare (S1A X c) 0 (off15 c)) $$ oa0; iintro oa0
  iapply (step_store (n := 128) oM c (S1A X c) 0 (FA X c) 0 (off15 c) (add_tiles (S1A X c) (S1A X (p2 c)) (by omega) (by omega))) $$ oa0; iintro oa0
  ihave oa0 := (Entails.of_eq (At_congr oM c fullShare (FA X c) 0 (G' := FIN X) (s' := 0) (a := aO c) (n := 128)
    fun i h h' j => by rw [Nat.zero_add]; exact (FIN_aO X c (by omega) (by omega) j).symm)) $$ oa0
  ihave oa0 := (At_halve oM c fullShare (FIN X) 0 (aO c) 128) $$ oa0; icases oa0 with ⟨oa0l, oa0r⟩
  iapply (step_copy X K (n := 128) oM oM c _ 8 [9, 10, 11, 12, 13, 14, 15, 16, 17] fullShare.left (FIN X) 0 0 (dev11 c) (off16 c) (off16 c) (by omega) rfl rfl (credit128 (by decide))
    .rfl (by show At oM (p2 c) (aO c) 128 fullShare (FIN X) 0 ⊢ At oM (p2 c) (aS (p2 c)) 128 fullShare (FIN X) 0; rw [aS_p2])) $$ [A8 HO oa0l d8]
  · isplitr; · iexact HR
    isplitl [A8]; · iexact A8
    isplitl [HO]; · iexact HO
    isplitl [oa0l]; · iexact oa0l
    iexact d8
  iintro ⟨S8, HO⟩
  iapply (step_ret c _); iapply Hk
  isplitl [HO]; · iexact HO
  isplitl [xbO]; · iexact xbO
  isplitl [obO]; · iexact obO
  isplitl [ZR3]; · iexact ZR3
  isplitl [s3]; · iexact s3
  isplitl [ZR4]; · iexact ZR4
  isplitl [s4a]; · iexact s4a
  isplitl [oa1]; · iexact oa1
  isplitl [oa0r]; · iexact oa0r
  iexact S8

/-- Copy 5 has landed, the sum is stored and sent back with copy 9; copy 6 has landed. -/
theorem part8 (w0 w1 w2 : BitVec 32) {Q : PUnit → sProp 𝕄} :
    iprop(records X K ∗ levAts L lv ∗ Arm c 9 ∗ Pend c (true, 5) ∗ Pend c (true, 6) ∗ Owes c [9, 10, 11, 12, 13, 14, 15, 16, 17] ∗ At oM c (aO c + 128) 128 fullShare (S1A X c) 0)
      ⊢ iprop(((Owes c [10, 11, 12, 13, 14, 15, 16, 17] ∗ semVal (cell c (some (true, 5))) 0 ∗ At sM4 c 128 128 fullShare (S1A X (p2 c)) (aO c) ∗ At oM c (aO c + 128) 128 fullShare.right (FIN X) 0 ∗ Pend c (false, 9) ∗ semVal (cell c (some (true, 6))) 0 ∗ At sM5 c 0 128 fullShare (S1B X (p1 c)) (bO c) ∗ Free (F := F) oM (p1 c) (bO c) 128) -∗ Q ⟨⟩)
        -∗ WP c (k0_part8 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c w0 w1 w2) Q) := by
  rw [k0_part8_eq_skeleton]; unfold k0_part8_skel
  simp only [Prog.lift, Prog.bind_op, Prog.bind_ret, Prog.pure_eq_ret]
  iintro ⟨#HR, #HL, A9, R5, R6, HO, oa1⟩ Hk
  iapply (step_wait X K c (true, 5) [9, 10, 11, 12, 13, 14, 15, 16, 17] (by decide) (hsm := rfl) (hN := credit128 (j := 5) (by decide))) $$ [R5 HO]
  · isplitr; · iexact HR
    isplitr; · iexact HL
    isplitl [R5]; · iexact R5
    iexact HO
  iintro ⟨ZR5, Hp, HO⟩
  ihave Hp := (show pay X c (true, 5) ⊢ iprop(At sM4 c 128 128 fullShare (S1A X (p2 c)) (aO c) ∗ Free (F := F) oM (p2 c) (aO c + 128) 128) from .rfl) $$ Hp
  icases Hp with ⟨s4b, d9⟩
  iapply (step_load (n := 128) oM c fullShare (S1A X c) 0 (off17 c)) $$ oa1; iintro oa1
  iapply (step_load (n := 128) sM4 c fullShare (S1A X (p2 c)) (aO c) rfl) $$ s4b; iintro s4b
  iapply (step_load (n := 128) oM c fullShare (S1A X c) 0 (off17 c)) $$ oa1; iintro oa1
  iapply (step_store (n := 128) oM c (S1A X c) 0 (FA X c) 0 (off17 c) (add_tiles (S1A X c) (S1A X (p2 c)) (by omega) (by omega))) $$ oa1; iintro oa1
  ihave oa1 := (Entails.of_eq (At_congr oM c fullShare (FA X c) 0 (G' := FIN X) (s' := 0) (a := aO c + 128) (n := 128)
    fun i h h' j => by rw [Nat.zero_add]; exact (FIN_aO X c (by omega) (by omega) j).symm)) $$ oa1
  ihave oa1 := (At_halve oM c fullShare (FIN X) 0 (aO c + 128) 128) $$ oa1; icases oa1 with ⟨oa1l, oa1r⟩
  iapply (step_copy X K (n := 128) oM oM c _ 9 [10, 11, 12, 13, 14, 15, 16, 17] fullShare.left (FIN X) 0 0 (dev12 c) (off18 c) (off18 c) (by omega) rfl rfl (credit128 (by decide))
    .rfl (by show At oM (p2 c) (aO c + 128) 128 fullShare (FIN X) 0 ⊢ At oM (p2 c) (aS (p2 c) + 128) 128 fullShare (FIN X) 0; rw [aS_p2])) $$ [A9 HO oa1l d9]
  · isplitr; · iexact HR
    isplitl [A9]; · iexact A9
    isplitl [HO]; · iexact HO
    isplitl [oa1l]; · iexact oa1l
    iexact d9
  iintro ⟨S9, HO⟩
  iapply (step_wait X K c (true, 6) [10, 11, 12, 13, 14, 15, 16, 17] (by decide) (hsm := rfl) (hN := credit128 (j := 6) (by decide))) $$ [R6 HO]
  · isplitr; · iexact HR
    isplitr; · iexact HL
    isplitl [R6]; · iexact R6
    iexact HO
  iintro ⟨ZR6, Hp, HO⟩
  ihave Hp := (show pay X c (true, 6) ⊢ iprop(At sM5 c 0 128 fullShare (S1B X (p1 c)) (bO c) ∗ Free (F := F) oM (p1 c) (bO c) 128) from .rfl) $$ Hp
  icases Hp with ⟨s5a, d10⟩
  iapply (step_ret c _); iapply Hk
  isplitl [HO]; · iexact HO
  isplitl [ZR5]; · iexact ZR5
  isplitl [s4b]; · iexact s4b
  isplitl [oa1r]; · iexact oa1r
  isplitl [S9]; · iexact S9
  isplitl [ZR6]; · iexact ZR6
  isplitl [s5a]; · iexact s5a
  iexact d10

/-- The sum with copy 6 is stored and sent back with copy 10; copy 7 has landed, and its sum is formed. -/
theorem part9 (w0 w1 : BitVec 32) {Q : FVec F S128x512 .f32 → sProp 𝕄} :
    iprop(records X K ∗ levAts L lv ∗ Arm c 10 ∗ Pend c (true, 7) ∗ Owes c [10, 11, 12, 13, 14, 15, 16, 17] ∗ At oM c (bO c) 256 fullShare (S1B X c) 0 ∗ At sM5 c 0 128 fullShare (S1B X (p1 c)) (bO c) ∗ Free (F := F) oM (p1 c) (bO c) 128)
      ⊢ iprop(((Owes c [11, 12, 13, 14, 15, 16, 17] ∗ At sM5 c 0 128 fullShare (S1B X (p1 c)) (bO c) ∗ At oM c (bO c + 128) 128 fullShare (S1B X c) 0 ∗ At oM c (bO c) 128 fullShare.right (FIN X) 0 ∗ Pend c (false, 10) ∗ semVal (cell c (some (true, 7))) 0 ∗ At sM5 c 128 128 fullShare (S1B X (p1 c)) (bO c) ∗ Free (F := F) oM (p1 c) (bO c + 128) 128) -∗ Q (tile 128 (FB X c) (0 + (bO c + 128))))
        -∗ WP c (k0_part9 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c w0 w1) Q) := by
  rw [k0_part9_eq_skeleton]; unfold k0_part9_skel
  simp only [Prog.lift, Prog.bind_op, Prog.bind_ret, Prog.pure_eq_ret]
  iintro ⟨#HR, #HL, A10, R7, HO, obO, s5a, d10⟩ Hk
  ihave obO := (At_split oM c fullShare (S1B X c) 0 (bO c) 128 128) $$ obO; icases obO with ⟨ob0, ob1⟩
  iapply (step_load (n := 128) oM c fullShare (S1B X c) 0 (off19 c)) $$ ob0; iintro ob0
  iapply (step_load (n := 128) sM5 c fullShare (S1B X (p1 c)) (bO c) rfl) $$ s5a; iintro s5a
  iapply (step_load (n := 128) oM c fullShare (S1B X c) 0 (off19 c)) $$ ob0; iintro ob0
  iapply (step_store (n := 128) oM c (S1B X c) 0 (FB X c) 0 (off19 c) (add_tiles (S1B X c) (S1B X (p1 c)) (by omega) (by omega))) $$ ob0; iintro ob0
  ihave ob0 := (Entails.of_eq (At_congr oM c fullShare (FB X c) 0 (G' := FIN X) (s' := 0) (a := bO c) (n := 128)
    fun i h h' j => by rw [Nat.zero_add]; exact (FIN_bO X c (by omega) (by omega) j).symm)) $$ ob0
  ihave ob0 := (At_halve oM c fullShare (FIN X) 0 (bO c) 128) $$ ob0; icases ob0 with ⟨ob0l, ob0r⟩
  iapply (step_copy X K (n := 128) oM oM c _ 10 [11, 12, 13, 14, 15, 16, 17] fullShare.left (FIN X) 0 0 (dev13 c) (off20 c) (off20 c) (by omega) rfl rfl (credit128 (by decide))
    .rfl (by show At oM (p1 c) (bO c) 128 fullShare (FIN X) 0 ⊢ At oM (p1 c) (bS (p1 c)) 128 fullShare (FIN X) 0; rw [bS_p1])) $$ [A10 HO ob0l d10]
  · isplitr; · iexact HR
    isplitl [A10]; · iexact A10
    isplitl [HO]; · iexact HO
    isplitl [ob0l]; · iexact ob0l
    iexact d10
  iintro ⟨S10, HO⟩
  iapply (step_wait X K c (true, 7) [11, 12, 13, 14, 15, 16, 17] (by decide) (hsm := rfl) (hN := credit128 (j := 7) (by decide))) $$ [R7 HO]
  · isplitr; · iexact HR
    isplitr; · iexact HL
    isplitl [R7]; · iexact R7
    iexact HO
  iintro ⟨ZR7, Hp, HO⟩
  ihave Hp := (show pay X c (true, 7) ⊢ iprop(At sM5 c 128 128 fullShare (S1B X (p1 c)) (bO c) ∗ Free (F := F) oM (p1 c) (bO c + 128) 128) from .rfl) $$ Hp
  icases Hp with ⟨s5b, d11⟩
  iapply (step_load (n := 128) oM c fullShare (S1B X c) 0 (off21 c)) $$ ob1; iintro ob1
  iapply (step_load (n := 128) sM5 c fullShare (S1B X (p1 c)) (bO c) rfl) $$ s5b; iintro s5b
  rw [show k0_pay10 (tile 128 (S1B X c) (0 + (bO c + 128))) (tile 128 (S1B X (p1 c)) (bO c + 128)) = tile 128 (FB X c) (0 + (bO c + 128)) from add_tiles (S1B X c) (S1B X (p1 c)) (by omega) (by omega)]
  iapply (step_ret c _); iapply Hk
  isplitl [HO]; · iexact HO
  isplitl [s5a]; · iexact s5a
  isplitl [ob1]; · iexact ob1
  isplitl [ob0r]; · iexact ob0r
  isplitl [S10]; · iexact S10
  isplitl [ZR7]; · iexact ZR7
  isplitl [s5b]; · iexact s5b
  iexact d11

/-- The sum with copy 7 is stored and sent back with copy 11; the finished rows go to the other partner with copies 12 and 13. -/
theorem part10 (w0 w1 w2 : BitVec 32) {Q : PUnit → sProp 𝕄} :
    iprop(records X K ∗ levAts L lv ∗ Arm c 11 ∗ Arm c 12 ∗ Arm c 13 ∗ Owes c [11, 12, 13, 14, 15, 16, 17] ∗ At oM c (bO c + 128) 128 fullShare (S1B X c) 0 ∗ Free (F := F) oM (p1 c) (bO c + 128) 128 ∗ At oM c (aO c) 128 fullShare.right (FIN X) 0 ∗ At oM c (aO c + 128) 128 fullShare.right (FIN X) 0 ∗ At oM c (bO c) 128 fullShare.right (FIN X) 0 ∗ Free (F := F) oM (p1 c) (aO c) 256 ∗ Free (F := F) oM (p2 c) (bO c) 256)
      ⊢ iprop(((Owes c [14, 15, 16, 17] ∗ Pend c (false, 11) ∗ Pend c (false, 12) ∗ Pend c (false, 13)) -∗ Q ⟨⟩)
        -∗ WP c (k0_part10 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c w0 w1 w2 (tile 128 (FB X c) (0 + (bO c + 128)))) Q) := by
  rw [k0_part10_eq_skeleton]; unfold k0_part10_skel
  simp only [Prog.lift, Prog.bind_op, Prog.bind_ret, Prog.pure_eq_ret]
  iintro ⟨#HR, #HL, A11, A12, A13, HO, ob1, d11, oa0r, oa1r, ob0r, d12, d13⟩ Hk
  iapply (step_load (n := 128) oM c fullShare (S1B X c) 0 (off21 c)) $$ ob1; iintro ob1
  iapply (step_store (n := 128) oM c (S1B X c) 0 (FB X c) 0 (off21 c) rfl) $$ ob1; iintro ob1
  ihave ob1 := (Entails.of_eq (At_congr oM c fullShare (FB X c) 0 (G' := FIN X) (s' := 0) (a := bO c + 128) (n := 128)
    fun i h h' j => by rw [Nat.zero_add]; exact (FIN_bO X c (by omega) (by omega) j).symm)) $$ ob1
  ihave ob1 := (At_halve oM c fullShare (FIN X) 0 (bO c + 128) 128) $$ ob1; icases ob1 with ⟨ob1l, ob1r⟩
  iapply (step_copy X K (n := 128) oM oM c _ 11 [12, 13, 14, 15, 16, 17] fullShare.left (FIN X) 0 0 (dev14 c) (off22 c) (off22 c) (by omega) rfl rfl (credit128 (by decide))
    .rfl (by show At oM (p1 c) (bO c + 128) 128 fullShare (FIN X) 0 ⊢ At oM (p1 c) (bS (p1 c) + 128) 128 fullShare (FIN X) 0; rw [bS_p1])) $$ [A11 HO ob1l d11]
  · isplitr; · iexact HR
    isplitl [A11]; · iexact A11
    isplitl [HO]; · iexact HO
    isplitl [ob1l]; · iexact ob1l
    iexact d11
  iintro ⟨S11, HO⟩
  ihave oar := (At_join oM c fullShare.right (FIN X) 0 (aO c) 128 128) $$ [oa0r oa1r]
  · isplitl [oa0r]; · iexact oa0r
    iexact oa1r
  iapply (step_copy X K (n := 256) oM oM c _ 12 [13, 14, 15, 16, 17] fullShare.right (FIN X) 0 0 (dev15 c) (off23 c) (off23 c) (by omega) rfl rfl (credit256 (by decide))
    .rfl (by show At oM (p1 c) (aO c) 256 fullShare (FIN X) 0 ⊢ At oM (p1 c) (aO (p1 (p1 c))) 256 fullShare (FIN X) 0; rw [p1_p1])) $$ [A12 HO oar d12]
  · isplitr; · iexact HR
    isplitl [A12]; · iexact A12
    isplitl [HO]; · iexact HO
    isplitl [oar]; · iexact oar
    iexact d12
  iintro ⟨S12, HO⟩
  ihave obr := (At_join oM c fullShare.right (FIN X) 0 (bO c) 128 128) $$ [ob0r ob1r]
  · isplitl [ob0r]; · iexact ob0r
    iexact ob1r
  iapply (step_copy X K (n := 256) oM oM c _ 13 [14, 15, 16, 17] fullShare.right (FIN X) 0 0 (dev16 c) (off24 c) (off24 c) (by omega) rfl rfl (credit256 (by decide))
    .rfl (by show At oM (p2 c) (bO c) 256 fullShare (FIN X) 0 ⊢ At oM (p2 c) (bO (p2 (p2 c))) 256 fullShare (FIN X) 0; rw [p2_p2])) $$ [A13 HO obr d13]
  · isplitr; · iexact HR
    isplitl [A13]; · iexact A13
    isplitl [HO]; · iexact HO
    isplitl [obr]; · iexact obr
    iexact d13
  iintro ⟨S13, HO⟩
  iapply (step_ret c _); iapply Hk
  isplitl [HO]; · iexact HO
  isplitl [S11]; · iexact S11
  isplitl [S12]; · iexact S12
  iexact S13

end Parts

end Cert.Butterfly

end
-- ==== Proof.Third.lean ====
/-
The spreading of the sums and the last waits: parts 11 to 16 of the kernel.
-/
module

public import proofs.«01_k».proof.Proof.Steps

@[expose] public section

set_option maxRecDepth 65536
set_option maxHeartbeats 1600000

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → ℕ → ℕ → Elt F .f32) (K : Dev nD × Key → ℕ) (c : Dev nD)

/-- Copies 8 and 10 have landed; their rows go on with copies 14 and 15. -/
theorem part11 (w0 w1 w2 : BitVec 32) {Q : PUnit → sProp 𝕄} :
    iprop(records X K ∗ levAts L lv ∗ Arm c 14 ∗ Arm c 15 ∗ Pend c (true, 8) ∗ Pend c (true, 10) ∗ Owes c [14, 15, 16, 17] ∗ Free (F := F) oM (p1 c) (aS c) 128 ∗ Free (F := F) oM (p2 c) (bS c) 128)
      ⊢ iprop(((Owes c [16, 17] ∗ semVal (cell c (some (true, 8))) 0 ∗ Pend c (false, 14) ∗ semVal (cell c (some (true, 10))) 0 ∗ Pend c (false, 15)) -∗ Q ⟨⟩)
        -∗ WP c (k0_part11 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c w0 w1 w2) Q) := by
  rw [k0_part11_eq_skeleton]; unfold k0_part11_skel
  simp only [Prog.lift, Prog.bind_op, Prog.bind_ret, Prog.pure_eq_ret]
  iintro ⟨#HR, #HL, A14, A15, R8, R10, HO, d14, d15⟩ Hk
  iapply (step_wait X K c (true, 8) [14, 15, 16, 17] (by decide) (hsm := rfl) (hN := credit128 (j := 8) (by decide))) $$ [R8 HO]
  · isplitr; · iexact HR
    isplitr; · iexact HL
    isplitl [R8]; · iexact R8
    iexact HO
  iintro ⟨ZR8, Hp, HO⟩
  ihave Hp := (show pay X c (true, 8) ⊢ At oM c (aS c) 128 fullShare (FIN X) 0 from .rfl) $$ Hp
  irename Hp => o8
  iapply (step_copy X K (n := 128) oM oM c _ 14 [15, 16, 17] fullShare (FIN X) 0 0 (dev17 c) (off6 c) (off6 c) (by omega) rfl rfl (credit128 (by decide))
    .rfl (by show At oM (p1 c) (aS c) 128 fullShare (FIN X) 0 ⊢ At oM (p1 c) (aS (p1 (p1 c))) 128 fullShare (FIN X) 0; rw [p1_p1])) $$ [A14 HO o8 d14]
  · isplitr; · iexact HR
    isplitl [A14]; · iexact A14
    isplitl [HO]; · iexact HO
    isplitl [o8]; · iexact o8
    iexact d14
  iintro ⟨S14, HO⟩
  iapply (step_wait X K c (true, 10) [15, 16, 17] (by decide) (hsm := rfl) (hN := credit128 (j := 10) (by decide))) $$ [R10 HO]
  · isplitr; · iexact HR
    isplitr; · iexact HL
    isplitl [R10]; · iexact R10
    iexact HO
  iintro ⟨ZR10, Hp, HO⟩
  ihave Hp := (show pay X c (true, 10) ⊢ At oM c (bS c) 128 fullShare (FIN X) 0 from .rfl) $$ Hp
  irename Hp => o10
  iapply (step_copy X K (n := 128) oM oM c _ 15 [16, 17] fullShare (FIN X) 0 0 (dev18 c) (off10 c) (off10 c) (by omega) rfl rfl (credit128 (by decide))
    .rfl (by show At oM (p2 c) (bS c) 128 fullShare (FIN X) 0 ⊢ At oM (p2 c) (bS (p2 (p2 c))) 128 fullShare (FIN X) 0; rw [p2_p2])) $$ [A15 HO o10 d15]
  · isplitr; · iexact HR
    isplitl [A15]; · iexact A15
    isplitl [HO]; · iexact HO
    isplitl [o10]; · iexact o10
    iexact d15
  iintro ⟨S15, HO⟩
  iapply (step_ret c _); iapply Hk
  isplitl [HO]; · iexact HO
  isplitl [ZR8]; · iexact ZR8
  isplitl [S14]; · iexact S14
  isplitl [ZR10]; · iexact ZR10
  iexact S15

/-- Copies 9 and 11 have landed; the rows of copy 9 go on with copy 16. -/
theorem part12 (w0 w1 w2 w3 : BitVec 32) {Q : PUnit → sProp 𝕄} :
    iprop(records X K ∗ levAts L lv ∗ Arm c 16 ∗ Pend c (true, 9) ∗ Pend c (true, 11) ∗ Owes c [16, 17] ∗ Free (F := F) oM (p1 c) (aS c + 128) 128)
      ⊢ iprop(((Owes c [17] ∗ semVal (cell c (some (true, 9))) 0 ∗ Pend c (false, 16) ∗ semVal (cell c (some (true, 11))) 0 ∗ At oM c (bS c + 128) 128 fullShare (FIN X) 0) -∗ Q ⟨⟩)
        -∗ WP c (k0_part12 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c w0 w1 w2 w3) Q) := by
  rw [k0_part12_eq_skeleton]; unfold k0_part12_skel
  simp only [Prog.lift, Prog.bind_op, Prog.bind_ret, Prog.pure_eq_ret]
  iintro ⟨#HR, #HL, A16, R9, R11, HO, d16⟩ Hk
  iapply (step_wait X K c (true, 9) [16, 17] (by decide) (hsm := rfl) (hN := credit128 (j := 9) (by decide))) $$ [R9 HO]
  · isplitr; · iexact HR
    isplitr; · iexact HL
    isplitl [R9]; · iexact R9
    iexact HO
  iintro ⟨ZR9, Hp, HO⟩
  ihave Hp := (show pay X c (true, 9) ⊢ At oM c (aS c + 128) 128 fullShare (FIN X) 0 from .rfl) $$ Hp
  irename Hp => o9
  iapply (step_copy X K (n := 128) oM oM c _ 16 [17] fullShare (FIN X) 0 0 (dev19 c) (off8 c) (off8 c) (by omega) rfl rfl (credit128 (by decide))
    .rfl (by show At oM (p1 c) (aS c + 128) 128 fullShare (FIN X) 0 ⊢ At oM (p1 c) (aS (p1 (p1 c)) + 128) 128 fullShare (FIN X) 0; rw [p1_p1])) $$ [A16 HO o9 d16]
  · isplitr; · iexact HR
    isplitl [A16]; · iexact A16
    isplitl [HO]; · iexact HO
    isplitl [o9]; · iexact o9
    iexact d16
  iintro ⟨S16, HO⟩
  iapply (step_wait X K c (true, 11) [17] (by decide) (hsm := rfl) (hN := credit128 (j := 11) (by decide))) $$ [R11 HO]
  · isplitr; · iexact HR
    isplitr; · iexact HL
    isplitl [R11]; · iexact R11
    iexact HO
  iintro ⟨ZR11, Hp, HO⟩
  ihave Hp := (show pay X c (true, 11) ⊢ At oM c (bS c + 128) 128 fullShare (FIN X) 0 from .rfl) $$ Hp
  irename Hp => o11
  iapply (step_ret c _); iapply Hk
  isplitl [HO]; · iexact HO
  isplitl [ZR9]; · iexact ZR9
  isplitl [S16]; · iexact S16
  isplitl [ZR11]; · iexact ZR11
  iexact o11

/-- The rows of copy 11 go on with copy 17; copies 12, 14, 16 and 13 have landed. -/
theorem part13 (w0 w1 : BitVec 32) {Q : PUnit → sProp 𝕄} :
    iprop(records X K ∗ levAts L lv ∗ Arm c 17 ∗ Pend c (true, 12) ∗ Pend c (true, 14) ∗ Pend c (true, 16) ∗ Pend c (true, 13) ∗ Owes c [17] ∗ Free (F := F) oM (p2 c) (bS c + 128) 128 ∗ At oM c (bS c + 128) 128 fullShare (FIN X) 0)
      ⊢ iprop(((Owes c [] ∗ Pend c (false, 17) ∗ semVal (cell c (some (true, 12))) 0 ∗ At oM c (aO (p1 c)) 256 fullShare (FIN X) 0 ∗ semVal (cell c (some (true, 14))) 0 ∗ At oM c (aS (p1 c)) 128 fullShare (FIN X) 0 ∗ semVal (cell c (some (true, 16))) 0 ∗ At oM c (aS (p1 c) + 128) 128 fullShare (FIN X) 0 ∗ semVal (cell c (some (true, 13))) 0 ∗ At oM c (bO (p2 c)) 256 fullShare (FIN X) 0) -∗ Q ⟨⟩)
        -∗ WP c (k0_part13 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c w0 w1) Q) := by
  rw [k0_part13_eq_skeleton]; unfold k0_part13_skel
  simp only [Prog.lift, Prog.bind_op, Prog.bind_ret, Prog.pure_eq_ret]
  iintro ⟨#HR, #HL, A17, R12, R14, R16, R13, HO, d17, o11⟩ Hk
  iapply (step_copy X K (n := 128) oM oM c _ 17 [] fullShare (FIN X) 0 0 (dev20 c) (off12 c) (off12 c) (by omega) rfl rfl (credit128 (by decide))
    .rfl (by show At oM (p2 c) (bS c + 128) 128 fullShare (FIN X) 0 ⊢ At oM (p2 c) (bS (p2 (p2 c)) + 128) 128 fullShare (FIN X) 0; rw [p2_p2])) $$ [A17 HO o11 d17]
  · isplitr; · iexact HR
    isplitl [A17]; · iexact A17
    isplitl [HO]; · iexact HO
    isplitl [o11]; · iexact o11
    iexact d17
  iintro ⟨S17, HO⟩
  iapply (step_wait X K c (true, 12) [] (by decide) (hsm := rfl) (hN := credit256 (j := 12) (by decide))) $$ [R12 HO]
  · isplitr; · iexact HR
    isplitr; · iexact HL
    isplitl [R12]; · iexact R12
    iexact HO
  iintro ⟨ZR12, Hp, HO⟩
  ihave Hp := (show pay X c (true, 12) ⊢ At oM c (aO (p1 c)) 256 fullShare (FIN X) 0 from .rfl) $$ Hp
  irename Hp => o12
  iapply (step_wait X K c (true, 14) [] (by decide) (hsm := rfl) (hN := credit128 (j := 14) (by decide))) $$ [R14 HO]
  · isplitr; · iexact HR
    isplitr; · iexact HL
    isplitl [R14]; · iexact R14
    iexact HO
  iintro ⟨ZR14, Hp, HO⟩
  ihave Hp := (show pay X c (true, 14) ⊢ At oM c (aS (p1 c)) 128 fullShare (FIN X) 0 from .rfl) $$ Hp
  irename Hp => o14
  iapply (step_wait X K c (true, 16) [] (by decide) (hsm := rfl) (hN := credit128 (j := 16) (by decide))) $$ [R16 HO]
  · isplitr; · iexact HR
    isplitr; · iexact HL
    isplitl [R16]; · iexact R16
    iexact HO
  iintro ⟨ZR16, Hp, HO⟩
  ihave Hp := (show pay X c (true, 16) ⊢ At oM c (aS (p1 c) + 128) 128 fullShare (FIN X) 0 from .rfl) $$ Hp
  irename Hp => o16
  iapply (step_wait X K c (true, 13) [] (by decide) (hsm := rfl) (hN := credit256 (j := 13) (by decide))) $$ [R13 HO]
  · isplitr; · iexact HR
    isplitr; · iexact HL
    isplitl [R13]; · iexact R13
    iexact HO
  iintro ⟨ZR13, Hp, HO⟩
  ihave Hp := (show pay X c (true, 13) ⊢ At oM c (bO (p2 c)) 256 fullShare (FIN X) 0 from .rfl) $$ Hp
  irename Hp => o13
  iapply (step_ret c _); iapply Hk
  isplitl [HO]; · iexact HO
  isplitl [S17]; · iexact S17
  isplitl [ZR12]; · iexact ZR12
  isplitl [o12]; · iexact o12
  isplitl [ZR14]; · iexact ZR14
  isplitl [o14]; · iexact o14
  isplitl [ZR16]; · iexact ZR16
  isplitl [o16]; · iexact o16
  isplitl [ZR13]; · iexact ZR13
  iexact o13

/-- Copies 15 and 17 have landed; copies 0, 1 and 2 have left. -/
theorem part14 (w0 : BitVec 32) {Q : PUnit → sProp 𝕄} :
    iprop(records X K ∗ levAts L lv ∗ Pend c (true, 15) ∗ Pend c (true, 17) ∗ Pend c (false, 0) ∗ Pend c (false, 1) ∗ Pend c (false, 2) ∗ Owes c [])
      ⊢ iprop(((Owes c [] ∗ semVal (cell c (some (true, 15))) 0 ∗ At oM c (bS (p2 c)) 128 fullShare (FIN X) 0 ∗ semVal (cell c (some (true, 17))) 0 ∗ At oM c (bS (p2 c) + 128) 128 fullShare (FIN X) 0 ∗ semVal (cell c (some (false, 0))) 0 ∗ At xM c (aS (p1 c)) 256 fullShare (X c) 0 ∗ semVal (cell c (some (false, 1))) 0 ∗ At xM c (aO (p1 c)) 256 fullShare (X c) 0 ∗ semVal (cell c (some (false, 2))) 0 ∗ At xM c (bS (p2 c)) 256 fullShare (X c) 0) -∗ Q ⟨⟩)
        -∗ WP c (k0_part14 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c w0) Q) := by
  rw [k0_part14_eq_skeleton]; unfold k0_part14_skel
  simp only [Prog.lift, Prog.bind_op, Prog.bind_ret, Prog.pure_eq_ret]
  iintro ⟨#HR, #HL, R15, R17, S0, S1, S2, HO⟩ Hk
  iapply (step_wait X K c (true, 15) [] (by decide) (hsm := rfl) (hN := credit128 (j := 15) (by decide))) $$ [R15 HO]
  · isplitr; · iexact HR
    isplitr; · iexact HL
    isplitl [R15]; · iexact R15
    iexact HO
  iintro ⟨ZR15, Hp, HO⟩
  ihave Hp := (show pay X c (true, 15) ⊢ At oM c (bS (p2 c)) 128 fullShare (FIN X) 0 from .rfl) $$ Hp
  irename Hp => o15
  iapply (step_wait X K c (true, 17) [] (by decide) (hsm := rfl) (hN := credit128 (j := 17) (by decide))) $$ [R17 HO]
  · isplitr; · iexact HR
    isplitr; · iexact HL
    isplitl [R17]; · iexact R17
    iexact HO
  iintro ⟨ZR17, Hp, HO⟩
  ihave Hp := (show pay X c (true, 17) ⊢ At oM c (bS (p2 c) + 128) 128 fullShare (FIN X) 0 from .rfl) $$ Hp
  irename Hp => o17
  iapply (step_wait X K c (false, 0) [] (by decide) (hsm := rfl) (hN := credit256 (j := 0) (by decide))) $$ [S0 HO]
  · isplitr; · iexact HR
    isplitr; · iexact HL
    isplitl [S0]; · iexact S0
    iexact HO
  iintro ⟨ZS0, Hp, HO⟩
  ihave Hp := (show pay X c (false, 0) ⊢ At xM c (aS (p1 c)) 256 fullShare (X c) 0 from .rfl) $$ Hp
  irename Hp => xs0
  iapply (step_wait X K c (false, 1) [] (by decide) (hsm := rfl) (hN := credit256 (j := 1) (by decide))) $$ [S1 HO]
  · isplitr; · iexact HR
    isplitr; · iexact HL
    isplitl [S1]; · iexact S1
    iexact HO
  iintro ⟨ZS1, Hp, HO⟩
  ihave Hp := (show pay X c (false, 1) ⊢ At xM c (aO (p1 c)) 256 fullShare (X c) 0 from .rfl) $$ Hp
  irename Hp => xs1
  iapply (step_wait X K c (false, 2) [] (by decide) (hsm := rfl) (hN := credit256 (j := 2) (by decide))) $$ [S2 HO]
  · isplitr; · iexact HR
    isplitr; · iexact HL
    isplitl [S2]; · iexact S2
    iexact HO
  iintro ⟨ZS2, Hp, HO⟩
  ihave Hp := (show pay X c (false, 2) ⊢ At xM c (bS (p2 c)) 256 fullShare (X c) 0 from .rfl) $$ Hp
  irename Hp => xs2
  iapply (step_ret c _); iapply Hk
  isplitl [HO]; · iexact HO
  isplitl [ZR15]; · iexact ZR15
  isplitl [o15]; · iexact o15
  isplitl [ZR17]; · iexact ZR17
  isplitl [o17]; · iexact o17
  isplitl [ZS0]; · iexact ZS0
  isplitl [xs0]; · iexact xs0
  isplitl [ZS1]; · iexact ZS1
  isplitl [xs1]; · iexact xs1
  isplitl [ZS2]; · iexact ZS2
  iexact xs2

/-- Copies 3 to 7 have left. -/
theorem part15 {Q : PUnit → sProp 𝕄} :
    iprop(records X K ∗ levAts L lv ∗ Pend c (false, 3) ∗ Pend c (false, 4) ∗ Pend c (false, 5) ∗ Pend c (false, 6) ∗ Pend c (false, 7) ∗ Owes c [])
      ⊢ iprop(((Owes c [] ∗ semVal (cell c (some (false, 3))) 0 ∗ At xM c (bO (p2 c)) 256 fullShare (X c) 0 ∗ semVal (cell c (some (false, 4))) 0 ∗ semVal (cell c (some (false, 5))) 0 ∗ semVal (cell c (some (false, 6))) 0 ∗ semVal (cell c (some (false, 7))) 0) -∗ Q ⟨⟩)
        -∗ WP c (k0_part15 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c) Q) := by
  rw [k0_part15_eq_skeleton]; unfold k0_part15_skel
  simp only [Prog.lift, Prog.bind_op, Prog.bind_ret, Prog.pure_eq_ret]
  iintro ⟨#HR, #HL, S3, S4, S5, S6, S7, HO⟩ Hk
  iapply (step_wait X K c (false, 3) [] (by decide) (hsm := rfl) (hN := credit256 (j := 3) (by decide))) $$ [S3 HO]
  · isplitr; · iexact HR
    isplitr; · iexact HL
    isplitl [S3]; · iexact S3
    iexact HO
  iintro ⟨ZS3, Hp, HO⟩
  ihave Hp := (show pay X c (false, 3) ⊢ At xM c (bO (p2 c)) 256 fullShare (X c) 0 from .rfl) $$ Hp
  irename Hp => xs3
  iapply (step_wait X K c (false, 4) [] (by decide) (hsm := rfl) (hN := credit128 (j := 4) (by decide))) $$ [S4 HO]
  · isplitr; · iexact HR
    isplitr; · iexact HL
    isplitl [S4]; · iexact S4
    iexact HO
  iintro ⟨ZS4, Hp, HO⟩
  iclear Hp
  iapply (step_wait X K c (false, 5) [] (by decide) (hsm := rfl) (hN := credit128 (j := 5) (by decide))) $$ [S5 HO]
  · isplitr; · iexact HR
    isplitr; · iexact HL
    isplitl [S5]; · iexact S5
    iexact HO
  iintro ⟨ZS5, Hp, HO⟩
  iclear Hp
  iapply (step_wait X K c (false, 6) [] (by decide) (hsm := rfl) (hN := credit128 (j := 6) (by decide))) $$ [S6 HO]
  · isplitr; · iexact HR
    isplitr; · iexact HL
    isplitl [S6]; · iexact S6
    iexact HO
  iintro ⟨ZS6, Hp, HO⟩
  iclear Hp
  iapply (step_wait X K c (false, 7) [] (by decide) (hsm := rfl) (hN := credit128 (j := 7) (by decide))) $$ [S7 HO]
  · isplitr; · iexact HR
    isplitr; · iexact HL
    isplitl [S7]; · iexact S7
    iexact HO
  iintro ⟨ZS7, Hp, HO⟩
  iclear Hp
  iapply (step_ret c _); iapply Hk
  isplitl [HO]; · iexact HO
  isplitl [ZS3]; · iexact ZS3
  isplitl [xs3]; · iexact xs3
  isplitl [ZS4]; · iexact ZS4
  isplitl [ZS5]; · iexact ZS5
  isplitl [ZS6]; · iexact ZS6
  iexact ZS7

/-- Copies 8 to 13 have left. -/
theorem part16 {Q : PUnit → sProp 𝕄} :
    iprop(records X K ∗ levAts L lv ∗ Pend c (false, 8) ∗ Pend c (false, 9) ∗ Pend c (false, 10) ∗ Pend c (false, 11) ∗ Pend c (false, 12) ∗ Pend c (false, 13) ∗ Owes c [])
      ⊢ iprop(((Owes c [] ∗ semVal (cell c (some (false, 8))) 0 ∗ At oM c (aO c) 128 fullShare.left (FIN X) 0 ∗ semVal (cell c (some (false, 9))) 0 ∗ At oM c (aO c + 128) 128 fullShare.left (FIN X) 0 ∗ semVal (cell c (some (false, 10))) 0 ∗ At oM c (bO c) 128 fullShare.left (FIN X) 0 ∗ semVal (cell c (some (false, 11))) 0 ∗ At oM c (bO c + 128) 128 fullShare.left (FIN X) 0 ∗ semVal (cell c (some (false, 12))) 0 ∗ At oM c (aO c) 256 fullShare.right (FIN X) 0 ∗ semVal (cell c (some (false, 13))) 0 ∗ At oM c (bO c) 256 fullShare.right (FIN X) 0) -∗ Q ⟨⟩)
        -∗ WP c (k0_part16 xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7 c) Q) := by
  rw [k0_part16_eq_skeleton]; unfold k0_part16_skel
  simp only [Prog.lift, Prog.bind_op, Prog.bind_ret, Prog.pure_eq_ret]
  iintro ⟨#HR, #HL, S8, S9, S10, S11, S12, S13, HO⟩ Hk
  iapply (step_wait X K c (false, 8) [] (by decide) (hsm := rfl) (hN := credit128 (j := 8) (by decide))) $$ [S8 HO]
  · isplitr; · iexact HR
    isplitr; · iexact HL
    isplitl [S8]; · iexact S8
    iexact HO
  iintro ⟨ZS8, Hp, HO⟩
  ihave Hp := (show pay X c (false, 8) ⊢ At oM c (aO c) 128 fullShare.left (FIN X) 0 from .rfl) $$ Hp
  irename Hp => f8
  iapply (step_wait X K c (false, 9) [] (by decide) (hsm := rfl) (hN := credit128 (j := 9) (by decide))) $$ [S9 HO]
  · isplitr; · iexact HR
    isplitr; · iexact HL
    isplitl [S9]; · iexact S9
    iexact HO
  iintro ⟨ZS9, Hp, HO⟩
  ihave Hp := (show pay X c (false, 9) ⊢ At oM c (aO c + 128) 128 fullShare.left (FIN X) 0 from .rfl) $$ Hp
  irename Hp => f9
  iapply (step_wait X K c (false, 10) [] (by decide) (hsm := rfl) (hN := credit128 (j := 10) (by decide))) $$ [S10 HO]
  · isplitr; · iexact HR
    isplitr; · iexact HL
    isplitl [S10]; · iexact S10
    iexact HO
  iintro ⟨ZS10, Hp, HO⟩
  ihave Hp := (show pay X c (false, 10) ⊢ At oM c (bO c) 128 fullShare.left (FIN X) 0 from .rfl) $$ Hp
  irename Hp => f10
  iapply (step_wait X K c (false, 11) [] (by decide) (hsm := rfl) (hN := credit128 (j := 11) (by decide))) $$ [S11 HO]
  · isplitr; · iexact HR
    isplitr; · iexact HL
    isplitl [S11]; · iexact S11
    iexact HO
  iintro ⟨ZS11, Hp, HO⟩
  ihave Hp := (show pay X c (false, 11) ⊢ At oM c (bO c + 128) 128 fullShare.left (FIN X) 0 from .rfl) $$ Hp
  irename Hp => f11
  iapply (step_wait X K c (false, 12) [] (by decide) (hsm := rfl) (hN := credit256 (j := 12) (by decide))) $$ [S12 HO]
  · isplitr; · iexact HR
    isplitr; · iexact HL
    isplitl [S12]; · iexact S12
    iexact HO
  iintro ⟨ZS12, Hp, HO⟩
  ihave Hp := (show pay X c (false, 12) ⊢ At oM c (aO c) 256 fullShare.right (FIN X) 0 from .rfl) $$ Hp
  irename Hp => f12
  iapply (step_wait X K c (false, 13) [] (by decide) (hsm := rfl) (hN := credit256 (j := 13) (by decide))) $$ [S13 HO]
  · isplitr; · iexact HR
    isplitr; · iexact HL
    isplitl [S13]; · iexact S13
    iexact HO
  iintro ⟨ZS13, Hp, HO⟩
  ihave Hp := (show pay X c (false, 13) ⊢ At oM c (bO c) 256 fullShare.right (FIN X) 0 from .rfl) $$ Hp
  irename Hp => f13
  iapply (step_ret c _); iapply Hk
  isplitl [HO]; · iexact HO
  isplitl [ZS8]; · iexact ZS8
  isplitl [f8]; · iexact f8
  isplitl [ZS9]; · iexact ZS9
  isplitl [f9]; · iexact f9
  isplitl [ZS10]; · iexact ZS10
  isplitl [f10]; · iexact f10
  isplitl [ZS11]; · iexact ZS11
  isplitl [f11]; · iexact f11
  isplitl [ZS12]; · iexact ZS12
  isplitl [f12]; · iexact f12
  isplitl [ZS13]; · iexact ZS13
  iexact f13

end Parts

end Cert.Butterfly

end
-- ==== Proof.Body.lean ====
/-
The whole kernel on one device.
-/
module

public import proofs.«01_k».proof.Proof.Bands
public import proofs.«01_k».proof.Proof.Start
public import proofs.«01_k».proof.Proof.First
public import proofs.«01_k».proof.Proof.Second
public import proofs.«01_k».proof.Proof.Third

@[expose] public section

set_option maxRecDepth 65536
set_option maxHeartbeats 1600000

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Parts
variable (X : Dev nD → ℕ → ℕ → Elt F .f32) (K : Dev nD × Key → ℕ) (c : Dev nD)

/-- What the device starts from besides its buffers: its place at the barrier and its two signals for it, a duty to
    signal at each partner's, leave to start its copies and leave to wait for the partners'. -/
def Ghost (c : Dev nD) : sProp 𝕄 :=
  iprop(atPos ER (cell c none) 0 ∅ 0 ∗ cred (tallyAt (cell c none) () 2) ∗ dutyTok ER (cell (p1 c) none) 0 false ∗ dutyTok ER (cell (p2 c) none) 0 true
    ∗ (bigSep Finset.univ fun j : Fin 18 => Arm c j) ∗ (bigSep Finset.univ fun j : Fin 18 => Pend c (true, j)))

/-- What it ends with: the input as it was, the result in the output, the landing buffers with some contents, nothing
    owed, every counter at zero. -/
def Done (c : Dev nD) : sProp 𝕄 :=
  iprop(At xM c 0 2048 fullShare (X c) 0 ∗ At oM c 0 2048 fullShare (FIN X) 0 ∗ Free (F := F) sM0 c 0 256 ∗ Free (F := F) sM1 c 0 256 ∗ Free (F := F) sM2 c 0 256 ∗ Free (F := F) sM3 c 0 256 ∗ Free (F := F) sM4 c 0 256 ∗ Free (F := F) sM5 c 0 256 ∗ Owes c [] ∗ semVal (cell c none) 0 ∗ (bigSep Finset.univ fun j : Fin 18 => semVal (cell c (some (false, j))) 0) ∗ (bigSep Finset.univ fun j : Fin 18 => semVal (cell c (some (true, j))) 0))

/-- The kernel run on device `c`. -/
theorem run_body {Q : PUnit → sProp 𝕄} :
    iprop(records X K ∗ levAts L lv ∗ Ghost c ∗ (∃ W : Waits sig Unit, owes (c : Thread nD τ) (O₀ c) W) ∗ At xM c 0 2048 fullShare (X c) 0 ∗ Free oM c 0 2048 ∗ Free sM0 c 0 256 ∗ Free sM1 c 0 256 ∗ Free sM2 c 0 256 ∗ Free sM3 c 0 256 ∗ Free sM4 c 0 256 ∗ Free sM5 c 0 256)
      ⊢ iprop((Done X c -∗ Q ⟨⟩)
        -∗ WP c (cc0_body xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7) Q) := by
  rw [cc0_body_eq_skeleton]; unfold cc0_body_skel
  rw [k0_part1_eq_skeleton]; unfold k0_part1_skel Done
  simp only [Prog.lift, Prog.bind_op, Prog.bind_ret, Prog.pure_eq_ret]
  iintro ⟨#HR, #HL, HG, HO, Hx, Ho, b0, b1, b2, b3, b4, b5⟩ Hk
  iapply (step_dev c)
  unfold Ghost
  icases HG with ⟨atB, cB, tB1, tB2, HA, HP⟩
  ihave HA := (Entails.of_eq (bigSep18 fun j => (Arm c j : sProp 𝕄))) $$ HA
  icases HA with ⟨A0, A1, A2, A3, A4, A5, A6, A7, A8, A9, A10, A11, A12, A13, A14, A15, A16, A17⟩
  ihave HP := (Entails.of_eq (bigSep18 fun j => (Pend c (true, j) : sProp 𝕄))) $$ HP
  icases HP with ⟨R0, R1, R2, R3, R4, R5, R6, R7, R8, R9, R10, R11, R12, R13, R14, R15, R16, R17⟩
  -- the blocks of the input and of the output
  ihave Hx := (own_of_whole xM c c fullShare (X c)) $$ Hx
  unfold Own
  icases Hx with ⟨xaO, xaS, xs1, xs0, xbO, xbS, xs3, xs2⟩
  ihave xaS := (At_split xM c fullShare (X c) 0 (aS c) 128 128) $$ xaS; icases xaS with ⟨xa0, xa1⟩
  ihave xbS := (At_split xM c fullShare (X c) 0 (bS c) 128 128) $$ xbS; icases xbS with ⟨xb0, xb1⟩
  ihave Ho := (Free_elim (F := F) oM c 0 2048) $$ Ho; icases Ho with ⟨%G, Ho⟩
  ihave Ho := (own_of_whole oM c c fullShare G) $$ Ho
  unfold Own
  icases Ho with ⟨oaO, oaS, oaO1, oaS1, obO, obS, obO2, obS2⟩
  ihave oaS := (At_split oM c fullShare G 0 (aS c) 128 128) $$ oaS; icases oaS with ⟨oaSl, oaSr⟩
  ihave oaS1 := (At_split oM c fullShare G 0 (aS (p1 c)) 128 128) $$ oaS1; icases oaS1 with ⟨oaS1l, oaS1r⟩
  ihave obS := (At_split oM c fullShare G 0 (bS c) 128 128) $$ obS; icases obS with ⟨obSl, obSr⟩
  ihave obS2 := (At_split oM c fullShare G 0 (bS (p2 c)) 128 128) $$ obS2; icases obS2 with ⟨obS2l, obS2r⟩
  ihave b4 := (Free_elim (F := F) sM4 c 0 256) $$ b4; icases b4 with ⟨%G4, b4⟩
  ihave b4 := (At_split sM4 c fullShare G4 0 0 128 128) $$ b4; icases b4 with ⟨b4l, b4r⟩
  ihave b5 := (Free_elim (F := F) sM5 c 0 256) $$ b5; icases b5 with ⟨%G5, b5⟩
  ihave b5 := (At_split sM5 c fullShare G5 0 0 128 128) $$ b5; icases b5 with ⟨b5l, b5r⟩
  -- what the partners are lent
  ihave lent1 : barPay (p1 c) false $$ [b0 b1 b5l b5r oaO1 oaS1l oaS1r]
  · unfold barPay; first | rw [if_pos rfl] | rw [if_neg Bool.false_ne_true]
    rw [p1_p1]
    isplitl [b0]; · iexact b0
    isplitl [b1]; · iexact b1
    isplitl [b5l]; · iapply (At_free sM5 c G5 0 0 128); iexact b5l
    isplitl [b5r]; · iapply (At_free sM5 c G5 0 (0 + 128) 128); iexact b5r
    isplitl [oaO1]; · iapply (At_free oM c G 0 (aO (p1 c)) 256); iexact oaO1
    isplitl [oaS1l]; · iapply (At_free oM c G 0 (aS (p1 c)) 128); iexact oaS1l
    iapply (At_free oM c G 0 (aS (p1 c) + 128) 128); iexact oaS1r
  ihave lent2 : barPay (p2 c) true $$ [b2 b3 b4l b4r obO2 obS2l obS2r]
  · unfold barPay; first | rw [if_pos rfl] | rw [if_neg Bool.false_ne_true]
    rw [p2_p2]
    isplitl [b2]; · iexact b2
    isplitl [b3]; · iexact b3
    isplitl [b4l]; · iapply (At_free sM4 c G4 0 0 128); iexact b4l
    isplitl [b4r]; · iapply (At_free sM4 c G4 0 (0 + 128) 128); iexact b4r
    isplitl [obO2]; · iapply (At_free oM c G 0 (bO (p2 c)) 256); iexact obO2
    isplitl [obS2l]; · iapply (At_free oM c G 0 (bS (p2 c)) 128); iexact obS2l
    iapply (At_free oM c G 0 (bS (p2 c) + 128) 128); iexact obS2r
  -- what the device keeps of the output
  ihave oa0 := (At_free oM c G 0 (aS c) 128) $$ oaSl
  ihave oa1 := (At_free oM c G 0 (aS c + 128) 128) $$ oaSr
  ihave ob0 := (At_free oM c G 0 (bS c) 128) $$ obSl
  ihave ob1 := (At_free oM c G 0 (bS c + 128) 128) $$ obSr
  ihave oaO := (At_free oM c G 0 (aO c) 256) $$ oaO
  ihave obO := (At_free oM c G 0 (bO c) 256) $$ obO
  iapply (step_seq c _ _)
  iapply (part2 X K c _ _ _ _ _) $$ [atB cB tB1 tB2 lent1 lent2 HO A0 xs0]
  · isplitr; · iexact HR
    isplitr; · iexact HL
    isplitl [atB]; · iexact atB
    isplitl [cB]; · iexact cB
    isplitl [tB1]; · iexact tB1
    isplitl [tB2]; · iexact tB2
    isplitl [lent1]; · iexact lent1
    isplitl [lent2]; · iexact lent2
    isplitl [HO]; · iexact HO
    isplitl [A0]; · iexact A0
    iexact xs0
  iintro ⟨HO, ZB, d1, d6, d7, d12, d14, d16, d2, d3, d4, d5, d13, d15, d17, S0⟩
  iapply (step_seq c _ _)
  iapply (part3 X K c _ _ _) $$ [A2 A1 A3 R0 HO xs2 xs1 xs3 d2 d1 d3 xa0]
  · isplitr; · iexact HR
    isplitr; · iexact HL
    isplitl [A2]; · iexact A2
    isplitl [A1]; · iexact A1
    isplitl [A3]; · iexact A3
    isplitl [R0]; · iexact R0
    isplitl [HO]; · iexact HO
    isplitl [xs2]; · iexact xs2
    isplitl [xs1]; · iexact xs1
    isplitl [xs3]; · iexact xs3
    isplitl [d2]; · iexact d2
    isplitl [d1]; · iexact d1
    isplitl [d3]; · iexact d3
    iexact xa0
  iintro ⟨HO, xa0, S2, S1, S3, ZR0, s0a, s0b⟩
  iapply (step_seq c _ _)
  iapply (part4 X K c _ _) $$ [A4 A5 HO oa0 oa1 d4 d5 xa1 s0b]
  · isplitr; · iexact HR
    isplitr; · iexact HL
    isplitl [A4]; · iexact A4
    isplitl [A5]; · iexact A5
    isplitl [HO]; · iexact HO
    isplitl [oa0]; · iexact oa0
    isplitl [oa1]; · iexact oa1
    isplitl [d4]; · iexact d4
    isplitl [d5]; · iexact d5
    isplitl [xa1]; · iexact xa1
    iexact s0b
  iintro ⟨HO, xa1, s0b, S4, S5⟩
  iapply (step_seq c _ _)
  iapply (part5 X K c _ _) $$ [A6 R2 HO ob0 d6 xb0 xb1]
  · isplitr; · iexact HR
    isplitr; · iexact HL
    isplitl [A6]; · iexact A6
    isplitl [R2]; · iexact R2
    isplitl [HO]; · iexact HO
    isplitl [ob0]; · iexact ob0
    isplitl [d6]; · iexact d6
    isplitl [xb0]; · iexact xb0
    iexact xb1
  iintro ⟨HO, xb0, xb1, ZR2, s2a, s2b, S6⟩
  iapply (step_seq c _ _)
  iapply (part6 X K c _ _ _ _) $$ [A7 R1 HO ob1 d7 xaO oaO]
  · isplitr; · iexact HR
    isplitr; · iexact HL
    isplitl [A7]; · iexact A7
    isplitl [R1]; · iexact R1
    isplitl [HO]; · iexact HO
    isplitl [ob1]; · iexact ob1
    isplitl [d7]; · iexact d7
    isplitl [xaO]; · iexact xaO
    iexact oaO
  iintro ⟨HO, xaO, oaO, S7, ZR1, s1⟩
  iapply (step_seq c _ _)
  iapply (part7 X K c _ _ _) $$ [A8 R3 R4 HO xbO obO oaO]
  · isplitr; · iexact HR
    isplitr; · iexact HL
    isplitl [A8]; · iexact A8
    isplitl [R3]; · iexact R3
    isplitl [R4]; · iexact R4
    isplitl [HO]; · iexact HO
    isplitl [xbO]; · iexact xbO
    isplitl [obO]; · iexact obO
    iexact oaO
  iintro ⟨HO, xbO, obO, ZR3, s3, ZR4, s4a, oa1, oa0r, S8⟩
  iapply (step_seq c _ _)
  iapply (part8 X K c _ _ _) $$ [A9 R5 R6 HO oa1]
  · isplitr; · iexact HR
    isplitr; · iexact HL
    isplitl [A9]; · iexact A9
    isplitl [R5]; · iexact R5
    isplitl [R6]; · iexact R6
    isplitl [HO]; · iexact HO
    iexact oa1
  iintro ⟨HO, ZR5, s4b, oa1r, S9, ZR6, s5a, d10⟩
  iapply (step_seq c _ _)
  iapply (part9 X K c _ _) $$ [A10 R7 HO obO s5a d10]
  · isplitr; · iexact HR
    isplitr; · iexact HL
    isplitl [A10]; · iexact A10
    isplitl [R7]; · iexact R7
    isplitl [HO]; · iexact HO
    isplitl [obO]; · iexact obO
    isplitl [s5a]; · iexact s5a
    iexact d10
  iintro ⟨HO, s5a, ob1, ob0r, S10, ZR7, s5b, d11⟩
  iapply (step_seq c _ _)
  iapply (part10 X K c _ _ _) $$ [A11 A12 A13 HO ob1 d11 oa0r oa1r ob0r d12 d13]
  · isplitr; · iexact HR
    isplitr; · iexact HL
    isplitl [A11]; · iexact A11
    isplitl [A12]; · iexact A12
    isplitl [A13]; · iexact A13
    isplitl [HO]; · iexact HO
    isplitl [ob1]; · iexact ob1
    isplitl [d11]; · iexact d11
    isplitl [oa0r]; · iexact oa0r
    isplitl [oa1r]; · iexact oa1r
    isplitl [ob0r]; · iexact ob0r
    isplitl [d12]; · iexact d12
    iexact d13
  iintro ⟨HO, S11, S12, S13⟩
  iapply (step_seq c _ _)
  iapply (part11 X K c _ _ _) $$ [A14 A15 R8 R10 HO d14 d15]
  · isplitr; · iexact HR
    isplitr; · iexact HL
    isplitl [A14]; · iexact A14
    isplitl [A15]; · iexact A15
    isplitl [R8]; · iexact R8
    isplitl [R10]; · iexact R10
    isplitl [HO]; · iexact HO
    isplitl [d14]; · iexact d14
    iexact d15
  iintro ⟨HO, ZR8, S14, ZR10, S15⟩
  iapply (step_seq c _ _)
  iapply (part12 X K c _ _ _ _) $$ [A16 R9 R11 HO d16]
  · isplitr; · iexact HR
    isplitr; · iexact HL
    isplitl [A16]; · iexact A16
    isplitl [R9]; · iexact R9
    isplitl [R11]; · iexact R11
    isplitl [HO]; · iexact HO
    iexact d16
  iintro ⟨HO, ZR9, S16, ZR11, o11⟩
  iapply (step_seq c _ _)
  iapply (part13 X K c _ _) $$ [A17 R12 R14 R16 R13 HO d17 o11]
  · isplitr; · iexact HR
    isplitr; · iexact HL
    isplitl [A17]; · iexact A17
    isplitl [R12]; · iexact R12
    isplitl [R14]; · iexact R14
    isplitl [R16]; · iexact R16
    isplitl [R13]; · iexact R13
    isplitl [HO]; · iexact HO
    isplitl [d17]; · iexact d17
    iexact o11
  iintro ⟨HO, S17, ZR12, o12, ZR14, o14, ZR16, o16, ZR13, o13⟩
  iapply (step_seq c _ _)
  iapply (part14 X K c _) $$ [R15 R17 S0 S1 S2 HO]
  · isplitr; · iexact HR
    isplitr; · iexact HL
    isplitl [R15]; · iexact R15
    isplitl [R17]; · iexact R17
    isplitl [S0]; · iexact S0
    isplitl [S1]; · iexact S1
    isplitl [S2]; · iexact S2
    iexact HO
  iintro ⟨HO, ZR15, o15, ZR17, o17, ZS0, xs0, ZS1, xs1, ZS2, xs2⟩
  iapply (step_seq c _ _)
  iapply (part15 X K c) $$ [S3 S4 S5 S6 S7 HO]
  · isplitr; · iexact HR
    isplitr; · iexact HL
    isplitl [S3]; · iexact S3
    isplitl [S4]; · iexact S4
    isplitl [S5]; · iexact S5
    isplitl [S6]; · iexact S6
    isplitl [S7]; · iexact S7
    iexact HO
  iintro ⟨HO, ZS3, xs3, ZS4, ZS5, ZS6, ZS7⟩
  iapply (step_seq c _ _)
  iapply (part16 X K c) $$ [S8 S9 S10 S11 S12 S13 HO]
  · isplitr; · iexact HR
    isplitr; · iexact HL
    isplitl [S8]; · iexact S8
    isplitl [S9]; · iexact S9
    isplitl [S10]; · iexact S10
    isplitl [S11]; · iexact S11
    isplitl [S12]; · iexact S12
    isplitl [S13]; · iexact S13
    iexact HO
  iintro ⟨HO, ZS8, f8, ZS9, f9, ZS10, f10, ZS11, f11, ZS12, f12, ZS13, f13⟩
  iapply (step_wait X K c (false, 14) [] (by decide) (hsm := rfl) (hN := credit128 (j := 14) (by decide))) $$ [S14 HO]
  · isplitr; · iexact HR
    isplitr; · iexact HL
    isplitl [S14]; · iexact S14
    iexact HO
  iintro ⟨ZS14, Hp, HO⟩
  ihave Hp := (show pay X c (false, 14) ⊢ At oM c (aS c) 128 fullShare (FIN X) 0 from .rfl) $$ Hp
  irename Hp => f14
  iapply (step_wait X K c (false, 16) [] (by decide) (hsm := rfl) (hN := credit128 (j := 16) (by decide))) $$ [S16 HO]
  · isplitr; · iexact HR
    isplitr; · iexact HL
    isplitl [S16]; · iexact S16
    iexact HO
  iintro ⟨ZS16, Hp, HO⟩
  ihave Hp := (show pay X c (false, 16) ⊢ At oM c (aS c + 128) 128 fullShare (FIN X) 0 from .rfl) $$ Hp
  irename Hp => f16
  iapply (step_wait X K c (false, 15) [] (by decide) (hsm := rfl) (hN := credit128 (j := 15) (by decide))) $$ [S15 HO]
  · isplitr; · iexact HR
    isplitr; · iexact HL
    isplitl [S15]; · iexact S15
    iexact HO
  iintro ⟨ZS15, Hp, HO⟩
  ihave Hp := (show pay X c (false, 15) ⊢ At oM c (bS c) 128 fullShare (FIN X) 0 from .rfl) $$ Hp
  irename Hp => f15
  iapply (step_wait X K c (false, 17) [] (by decide) (hsm := rfl) (hN := credit128 (j := 17) (by decide))) $$ [S17 HO]
  · isplitr; · iexact HR
    isplitr; · iexact HL
    isplitl [S17]; · iexact S17
    iexact HO
  iintro ⟨ZS17, Hp, HO⟩
  ihave Hp := (show pay X c (false, 17) ⊢ At oM c (bS c + 128) 128 fullShare (FIN X) 0 from .rfl) $$ Hp
  irename Hp => f17
  iapply (step_ret c _); iapply Hk
  -- the input whole again
  ihave xaS := (At_join xM c fullShare (X c) 0 (aS c) 128 128) $$ [xa0 xa1]
  · isplitl [xa0]; · iexact xa0
    iexact xa1
  ihave xbS := (At_join xM c fullShare (X c) 0 (bS c) 128 128) $$ [xb0 xb1]
  · isplitl [xb0]; · iexact xb0
    iexact xb1
  ihave Hx := (whole_of_own xM c c fullShare (X c)) $$ [xaO xaS xs1 xs0 xbO xbS xs3 xs2]
  · unfold Own
    isplitl [xaO]; · iexact xaO
    isplitl [xaS]; · iexact xaS
    isplitl [xs1]; · iexact xs1
    isplitl [xs0]; · iexact xs0
    isplitl [xbO]; · iexact xbO
    isplitl [xbS]; · iexact xbS
    isplitl [xs3]; · iexact xs3
    iexact xs2
  -- the output whole
  ihave aL := (At_join oM c fullShare.left (FIN X) 0 (aO c) 128 128) $$ [f8 f9]
  · isplitl [f8]; · iexact f8
    iexact f9
  ihave aO := (At_unhalve oM c fullShare (FIN X) 0 (aO c) 256) $$ [aL f12]
  · isplitl [aL]; · iexact aL
    iexact f12
  ihave bL := (At_join oM c fullShare.left (FIN X) 0 (bO c) 128 128) $$ [f10 f11]
  · isplitl [f10]; · iexact f10
    iexact f11
  ihave bO := (At_unhalve oM c fullShare (FIN X) 0 (bO c) 256) $$ [bL f13]
  · isplitl [bL]; · iexact bL
    iexact f13
  ihave aS := (At_join oM c fullShare (FIN X) 0 (aS c) 128 128) $$ [f14 f16]
  · isplitl [f14]; · iexact f14
    iexact f16
  ihave bS := (At_join oM c fullShare (FIN X) 0 (bS c) 128 128) $$ [f15 f17]
  · isplitl [f15]; · iexact f15
    iexact f17
  ihave aS1 := (At_join oM c fullShare (FIN X) 0 (aS (p1 c)) 128 128) $$ [o14 o16]
  · isplitl [o14]; · iexact o14
    iexact o16
  ihave bS2 := (At_join oM c fullShare (FIN X) 0 (bS (p2 c)) 128 128) $$ [o15 o17]
  · isplitl [o15]; · iexact o15
    iexact o17
  ihave Ho := (whole_of_own oM c c fullShare (FIN X)) $$ [aO aS o12 aS1 bO bS o13 bS2]
  · unfold Own
    isplitl [aO]; · iexact aO
    isplitl [aS]; · iexact aS
    isplitl [o12]; · iexact o12
    isplitl [aS1]; · iexact aS1
    isplitl [bO]; · iexact bO
    isplitl [bS]; · iexact bS
    isplitl [o13]; · iexact o13
    iexact bS2
  -- the landing buffers
  ihave s0 := (At_join sM0 c fullShare (X (p1 c)) (aS c) 0 128 128) $$ [s0a s0b]
  · isplitl [s0a]; · iexact s0a
    iexact s0b
  ihave s2 := (At_join sM2 c fullShare (X (p2 c)) (bS c) 0 128 128) $$ [s2a s2b]
  · isplitl [s2a]; · iexact s2a
    iexact s2b
  ihave s4 := (At_join sM4 c fullShare (S1A X (p2 c)) (aO c) 0 128 128) $$ [s4a s4b]
  · isplitl [s4a]; · iexact s4a
    iexact s4b
  ihave s5 := (At_join sM5 c fullShare (S1B X (p1 c)) (bO c) 0 128 128) $$ [s5a s5b]
  · isplitl [s5a]; · iexact s5a
    iexact s5b
  isplitl [Hx]; · iexact Hx
  isplitl [Ho]; · iexact Ho
  isplitl [s0]; · iapply (At_free sM0 c (X (p1 c)) (aS c) 0 256); iexact s0
  isplitl [s1]; · iapply (At_free sM1 c (X (p1 c)) (aO c) 0 256); iexact s1
  isplitl [s2]; · iapply (At_free sM2 c (X (p2 c)) (bS c) 0 256); iexact s2
  isplitl [s3]; · iapply (At_free sM3 c (X (p2 c)) (bO c) 0 256); iexact s3
  isplitl [s4]; · iapply (At_free sM4 c (S1A X (p2 c)) (aO c) 0 256); iexact s4
  isplitl [s5]; · iapply (At_free sM5 c (S1B X (p1 c)) (bO c) 0 256); iexact s5
  isplitl [HO]; · iexact HO
  isplitl [ZB]; · iexact ZB
  isplitl [ZS0 ZS1 ZS2 ZS3 ZS4 ZS5 ZS6 ZS7 ZS8 ZS9 ZS10 ZS11 ZS12 ZS13 ZS14 ZS15 ZS16 ZS17]
  · rw [bigSep18 fun j => (semVal (cell c (some (false, j))) 0 : sProp 𝕄)]
    isplitl [ZS0]; · iexact ZS0
    isplitl [ZS1]; · iexact ZS1
    isplitl [ZS2]; · iexact ZS2
    isplitl [ZS3]; · iexact ZS3
    isplitl [ZS4]; · iexact ZS4
    isplitl [ZS5]; · iexact ZS5
    isplitl [ZS6]; · iexact ZS6
    isplitl [ZS7]; · iexact ZS7
    isplitl [ZS8]; · iexact ZS8
    isplitl [ZS9]; · iexact ZS9
    isplitl [ZS10]; · iexact ZS10
    isplitl [ZS11]; · iexact ZS11
    isplitl [ZS12]; · iexact ZS12
    isplitl [ZS13]; · iexact ZS13
    isplitl [ZS14]; · iexact ZS14
    isplitl [ZS15]; · iexact ZS15
    isplitl [ZS16]; · iexact ZS16
    iexact ZS17
  · rw [bigSep18 fun j => (semVal (cell c (some (true, j))) 0 : sProp 𝕄)]
    isplitl [ZR0]; · iexact ZR0
    isplitl [ZR1]; · iexact ZR1
    isplitl [ZR2]; · iexact ZR2
    isplitl [ZR3]; · iexact ZR3
    isplitl [ZR4]; · iexact ZR4
    isplitl [ZR5]; · iexact ZR5
    isplitl [ZR6]; · iexact ZR6
    isplitl [ZR7]; · iexact ZR7
    isplitl [ZR8]; · iexact ZR8
    isplitl [ZR9]; · iexact ZR9
    isplitl [ZR10]; · iexact ZR10
    isplitl [ZR11]; · iexact ZR11
    isplitl [ZR12]; · iexact ZR12
    isplitl [ZR13]; · iexact ZR13
    isplitl [ZR14]; · iexact ZR14
    isplitl [ZR15]; · iexact ZR15
    isplitl [ZR16]; · iexact ZR16
    iexact ZR17

end Parts

end Cert.Butterfly

end
-- ==== Proof.Deal.lean ====
/-
How the launch's semaphores, tokens and credit are dealt to the devices.
-/
module

public import proofs.«01_k».proof.Proof.Body
public import proofs.«01_k».proof.Proof.Gen.KernelIdeal.Launch
public import Idealize.ShloMosaic.Lib.Pipeline.Launch
public import Idealize.ShloMosaic.Lib.Pipeline.Kit

@[expose] public section

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over the kernel's index types -/

omit [FloatOps F] in
/-- Over an optional index: over the present ones, and at the absent one. -/
theorem bigSep_optional {α : Type} [Fintype α] (Φ : Option α → sProp 𝕄) :
    bigSep Finset.univ Φ = iprop((bigSep Finset.univ fun a => Φ (some a)) ∗ Φ none) := by
  rw [bigSep_univ_equiv (Equiv.optionEquivSumPUnit.{0} α).symm, bigSep_univ_sum, bigSep_univ_of_subsingleton (I := PUnit) ⟨⟩]
  rfl
omit [FloatOps F] in
/-- Over the DMA semaphores: over the send semaphores, and over the receive semaphores. -/
theorem bigSep_sides (Φ : Bool × Fin 18 → sProp 𝕄) :
    bigSep Finset.univ Φ = iprop((bigSep Finset.univ fun j => Φ (false, j)) ∗ (bigSep Finset.univ fun j => Φ (true, j))) := by
  rw [bigSep_univ_prod, bigSep_univ_eq_bigSepL [false, true] (by decide) (by decide), bigSepL_cons_cons, bigSepL_singleton]
  rfl
omit [FloatOps F] in
/-- Over the devices: over each device's partner. -/
theorem bigSep_swap (p : Dev nD → Dev nD) (hp : ∀ c, p (p c) = c) (Φ : Dev nD → sProp 𝕄) :
    bigSep Finset.univ Φ = bigSep Finset.univ fun c => Φ (p c) :=
  bigSep_univ_equiv (Function.Involutive.toPerm p hp) Φ
omit [FloatOps F] in
/-- Something lasting may be used at every index. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The cells and their tokens -/

/-- Cells are told apart by device and key. -/
theorem cells_injective : Function.Injective (fun ck : Dev nD × Key => cell ck.1 ck.2) := by
  rintro ⟨c, k⟩ ⟨c', k'⟩ h
  obtain ⟨rfl, rfl⟩ := cell_inj h; rfl
/-- All semaphores of the kernel on all devices. -/
def allCells : Finset (GSem nD τ sig) := Finset.univ.map ⟨fun ck : Dev nD × Key => cell ck.1 ck.2, cells_injective⟩

/-- The duties of a device's semaphores: two at the barrier, one at each other. -/
abbrev Duty : Type := Bool ⊕ (Bool × Fin 18)
/-- A duty, as the rounds library names it. -/
def duty (x : Dev nD × Duty) : GSem nD τ sig × ℕ × Bool := match x.2 with
  | .inl b => (cell x.1 none, 0, b)
  | .inr k => (cell x.1 (some k), 0, false)
/-- Duties are told apart by their names. -/
theorem duty_injective : Function.Injective duty := by
  rintro ⟨c, o⟩ ⟨c', o'⟩ h
  rcases o with b | k <;> rcases o' with b' | k'
  · obtain ⟨h1, -⟩ := cell_inj (congrArg Prod.fst h)
    have h2 : b = b' := congrArg (fun x : GSem nD τ sig × ℕ × Bool => x.2.2) h
    exact Prod.ext h1 (congrArg Sum.inl h2)
  · exact absurd (cell_inj (congrArg Prod.fst h)).2 (by simp)
  · exact absurd (cell_inj (congrArg Prod.fst h)).2 (by simp)
  · obtain ⟨h1, h2⟩ := cell_inj (congrArg Prod.fst h)
    exact Prod.ext h1 (congrArg Sum.inr (Option.some.inj h2))
/-- All duties of all devices. -/
def allDuties : Finset (GSem nD τ sig × ℕ × Bool) := Finset.univ.map ⟨duty, duty_injective⟩

section Deal
variable (X : Dev nD → ℕ → ℕ → Elt F .f32)

/-- The tokens of the duties of device `c`'s own semaphores. -/
def ownTokens (c : Dev nD) : sProp 𝕄 :=
  iprop((dutyTok ER (cell c none) 0 false ∗ dutyTok ER (cell c none) 0 true)
    ∗ (bigSep Finset.univ fun j : Fin 18 => dutyTok ER (cell c (some (false, j))) 0 false)
    ∗ (bigSep Finset.univ fun j : Fin 18 => dutyTok ER (cell c (some (true, j))) 0 false))

/-- What `c` has at first: its semaphores' rounds, its places in them, the tokens of their duties. -/
def Dealt (c : Dev nD) : sProp 𝕄 :=
  iprop((bigSep Finset.univ fun k : Key => roundState ER (sched X) (cell c k) 0)
    ∗ (bigSep Finset.univ fun k : Key => iprop(atPos ER (cell c k) 0 ∅ 0 ∗ reached ER (cell c k) 0)) ∗ ownTokens c)

/-- The tokens of the duties `c` has to do, and its places. -/
def Mine (c : Dev nD) : sProp 𝕄 :=
  iprop((bigSep Finset.univ fun k : Key => atPos ER (cell c k) 0 ∅ 0)
    ∗ (dutyTok ER (cell (p1 c) none) 0 false ∗ dutyTok ER (cell (p2 c) none) 0 true)
    ∗ (bigSep Finset.univ fun j : Fin 18 => dutyTok ER (cell c (some (false, j))) 0 false)
    ∗ (bigSep Finset.univ fun j : Fin 18 => dutyTok ER (cell (tgt j c) (some (true, j))) 0 false))

/-- What `c` has once everything is dealt. -/
def Ready (c : Dev nD) : sProp 𝕄 := iprop(∃ K : Dev nD × Key → ℕ, records X K ∗ Mine c)

/-- The rounds of all semaphores, opened, give every device its part. -/
theorem deal : BI.own (ER (initOf allCells allDuties)) ⊢ (|==> bigSep Finset.univ (Dealt X) : sProp 𝕄) := by
  have hC (Φ : GSem nD τ sig → sProp 𝕄) : bigSep allCells Φ = bigSep Finset.univ fun c : Dev nD => bigSep Finset.univ fun k : Key => Φ (cell c k) := by
    unfold allCells; rw [bigSep_map, bigSep_univ_prod]; rfl
  have hT : bigSep allDuties (fun x => (dutyTok ER x.1 x.2.1 x.2.2 : sProp 𝕄)) = bigSep Finset.univ fun c : Dev nD => ownTokens c := by
    unfold allDuties; rw [bigSep_map, bigSep_univ_prod]
    refine bigSep_congr fun c _ => ?_
    unfold ownTokens
    rw [bigSep_univ_sum, bigSep_sides, bigSep_univ_eq_bigSepL [false, true] (by decide) (by decide), bigSepL_cons_cons, bigSepL_singleton]
    rfl
  iintro H
  imod (Rounds.fund ER (sched X) allCells allDuties) $$ H with ⟨Hst, Hr, Hat, Htok⟩
  imodintro
  ihave Hst := (Entails.of_eq (hC fun g => roundState ER (sched X) g 0)) $$ Hst
  ihave Hat := (Entails.of_eq (hC fun g => atPos ER g 0 ∅ 0)) $$ Hat
  ihave Hr := (Entails.of_eq (hC fun g => reached ER g 0)) $$ Hr
  ihave Htok := (Entails.of_eq hT) $$ Htok
  unfold Dealt; simp only [bigSep_sep']
  isplitl [Hst]; · iexact Hst
  isplitl [Hat Hr]
  · isplitl [Hat] <;> iassumption
  iexact Htok

/-- The tokens handed to the devices whose duties they are. -/
theorem hand_on : (bigSep Finset.univ fun c : Dev nD => (ownTokens c : sProp 𝕄))
    ⊢ bigSep Finset.univ fun c : Dev nD => iprop((dutyTok ER (cell (p1 c) none) 0 false ∗ dutyTok ER (cell (p2 c) none) 0 true)
      ∗ (bigSep Finset.univ fun j : Fin 18 => dutyTok ER (cell c (some (false, j))) 0 false)
      ∗ (bigSep Finset.univ fun j : Fin 18 => dutyTok ER (cell (tgt j c) (some (true, j))) 0 false)) := by
  have hR : (bigSep Finset.univ fun c : Dev nD => bigSep Finset.univ fun j : Fin 18 => (dutyTok ER (cell c (some (true, j))) 0 false : sProp 𝕄))
      = bigSep Finset.univ fun c : Dev nD => bigSep Finset.univ fun j : Fin 18 => dutyTok ER (cell (tgt j c) (some (true, j))) 0 false := by
    rw [bigSep_univ_comm, bigSep_univ_comm (fun (c : Dev nD) (j : Fin 18) => (dutyTok ER (cell (tgt j c) (some (true, j))) 0 false : sProp 𝕄))]
    exact bigSep_congr fun j _ => bigSep_swap (tgt j) (tgt_tgt j) _
  unfold ownTokens
  simp only [bigSep_sep']
  rw [hR, bigSep_swap p1 p1_p1 (fun c : Dev nD => (dutyTok ER (cell c none) 0 false : sProp 𝕄)),
    bigSep_swap p2 p2_p2 (fun c : Dev nD => (dutyTok ER (cell c none) 0 true : sProp 𝕄))]

/-! ## The semaphores -/

/-- The barrier is the launch's one semaphore that outlives the kernel. -/
theorem barrier_only (c : Dev nD) : (unscopedSems0 c : sProp 𝕄) = semVal (cell c none) 0 := by
  unfold unscopedSems0; rw [bigSep_eq_bigSepL_of_eq [SemLoc.reg barS] (by decide) (by decide)]; rfl

/-- All of the kernel's counters at zero. -/
theorem counters (c : Dev nD) :
    (iprop(Pipeline.ownSems0 (Ix := Unit) (Name := ℕ) (U := UU) (Lvl := ℕ) (Val := Elt F) (τ := τ) osem c ∗ unscopedSems0 c) : sProp 𝕄)
      = bigSep Finset.univ fun k : Key => semVal (cell c k) 0 := by
  rw [bigSep_optional, barrier_only]; rfl

/-- One device's semaphores become invariants. -/
theorem open_one (c : Dev nD) :
    iprop(Pipeline.ownSems0 (Ix := Unit) (Name := ℕ) (U := UU) (Lvl := ℕ) (Val := Elt F) (τ := τ) osem c ∗ unscopedSems0 c ∗ Dealt X c)
      ⊢ |={Set.univ}=> iprop((bigSep Finset.univ fun k : Key => iprop(∃ κ : ℕ, cellInv ER (sched X) κ (cell c k)))
          ∗ (bigSep Finset.univ fun k : Key => iprop(atPos ER (cell c k) 0 ∅ 0 ∗ reached ER (cell c k) 0)) ∗ ownTokens c) := by
  unfold Dealt
  iintro ⟨Hos, Hus, Hst, Hat, Htok⟩
  ihave Hv := (Entails.of_eq (counters (F := F) c)) $$ [Hos Hus]
  · isplitl [Hos] <;> iassumption
  imod (show iprop((bigSep Finset.univ fun k : Key => semVal (cell c k) 0) ∗ bigSep Finset.univ fun k : Key => roundState ER (sched X) (cell c k) 0)
      ⊢ (|={Set.univ}=> bigSep Finset.univ fun k : Key => iprop(∃ κ : ℕ, cellInv ER (sched X) κ (cell c k)) : sProp 𝕄) from by
        rw [← bigSep_sep']
        exact (bigSep_mono fun k _ => (Rounds.body_intro ER (sched X) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- All devices together: the invariants are everybody's, the places and the tokens go where they belong. -/
theorem share_out :
    (bigSep Finset.univ fun c : Dev nD => iprop((bigSep Finset.univ fun k : Key => iprop(∃ κ : ℕ, cellInv ER (sched X) κ (cell c k)))
          ∗ (bigSep Finset.univ fun k : Key => iprop(atPos ER (cell c k) 0 ∅ 0 ∗ reached ER (cell c k) 0)) ∗ ownTokens c) : sProp 𝕄)
      ⊢ bigSep Finset.univ (Ready X) := by
  rw [bigSep_sep', bigSep_sep', ← bigSep_univ_prod (fun ck : Dev nD × Key => iprop(∃ κ : ℕ, cellInv ER (sched X) κ (cell ck.1 ck.2))),
    bigSep_congr (s := Finset.univ) (fun (c : Dev nD) _ => bigSep_sep' Finset.univ (fun k : Key => (atPos ER (cell c k) 0 ∅ 0 : sProp 𝕄)) (fun k => reached ER (cell c k) 0)),
    bigSep_sep', ← bigSep_univ_prod (fun ck : Dev nD × Key => (reached ER (cell ck.1 ck.2) 0 : sProp 𝕄))]
  iintro ⟨HI, ⟨Hat, #HR⟩, Htok⟩
  ihave HK := (BI.bigSep_exists_pi Finset.univ (fun (ck : Dev nD × Key) (κ : ℕ) => (cellInv ER (sched X) κ (cell ck.1 ck.2) : sProp 𝕄))) $$ HI
  icases HK with ⟨%K, #HI⟩
  ihave Htok := (hand_on (F := F)) $$ Htok
  iapply (bigSep_using (R := records X K) (Φ := Mine) fun c _ => show iprop(records X K ∗ Mine c) ⊢ Ready X c from by
    unfold Ready; iintro H; iexists K; iexact H)
  isplitr
  · unfold records; isplitl; · iexact HI
    iexact HR
  · iapply ((Entails.of_eq (bigSep_sep' Finset.univ (fun c : Dev nD => bigSep Finset.univ fun k : Key => (atPos ER (cell c k) 0 ∅ 0 : sProp 𝕄)) _).symm).trans
      (bigSep_mono fun c _ => show _ ⊢ Mine c from .rfl))
    isplitl [Hat]; · iexact Hat
    iexact Htok

/-- From all semaphores at zero to every device ready to run. -/
theorem ready : (bigSep Finset.univ fun c => iprop(Pipeline.ownSems0 (Ix := Unit) (Name := ℕ) (U := UU) (Lvl := ℕ) (Val := Elt F) (τ := τ) osem c ∗ unscopedSems0 c ∗ Dealt X c) : sProp 𝕄)
    ⊢ |={Set.univ}=> bigSep Finset.univ (Ready X) :=
  ((bigSep_mono fun c _ => open_one X c).trans (bigSep_fupd _ _)).trans (BI.fupd_mono (share_out X))

end Deal

/-! ## The credit -/

/-- The copies `l` of device `d` owe the receive semaphore of copy `j` on `c` its count, if `d` is who sends it. -/
theorem owed_recv (d c : Dev nD) (j : Fin 18) (l : List (Fin 18)) (hl : l.Nodup) :
    Owe d l (cell c (some (true, j))) () = if j ∈ l ∧ d = tgt j c then amt j else 0 := by
  induction l with
  | nil => rw [if_neg (fun h => List.not_mem_nil h.1)]; rfl
  | cons i l ih =>
    unfold Owe
    rw [Pi.add_apply, Finsupp.add_apply, tallyAt_apply, ih (List.nodup_cons.mp hl).2]
    by_cases hi : j = i
    · subst hi
      rw [if_neg (fun h => (List.nodup_cons.mp hl).1 h.1), Nat.zero_add]
      refine if_congr ⟨fun h => ⟨List.mem_cons_self, ?_⟩, fun h => ⟨?_, rfl⟩⟩ rfl rfl
      · rw [(cell_inj h.1).1, tgt_tgt]
      · rw [h.2, tgt_tgt]
    · rw [if_neg (c := _ ∧ () = ()) (fun h => hi (Prod.mk.inj (Option.some.inj (cell_inj h.1).2)).2), Nat.add_zero]
      refine if_congr (and_congr_left fun _ => ?_) rfl rfl
      rw [List.mem_cons, or_iff_right hi]

/-- Copies owe a barrier nothing. -/
theorem owed_none (d c : Dev nD) (l : List (Fin 18)) : Owe d l (cell c none) () = 0 := by
  by_contra h
  obtain ⟨j, -, e⟩ := Owe_pos (Nat.pos_of_ne_zero h)
  exact absurd (cell_inj e).2 (by simp)

/-- The launch gives each receive semaphore the count of its copy, -/
theorem credit_recv (c : Dev nD) (j : Fin 18) :
    tallyOn (cell c (some (true, j))) (launchCredit (Pipeline.owing O₀) 0 (cell c (some (true, j)))) = (tallyAt (cell c (some (true, j))) () (amt j) : CellTallies nD τ sig Unit) := by
  have hd (d : Dev nD) : O₀ d (cell c (some (true, j))) () = if d = tgt j c then amt j else 0 := by
    unfold O₀ O₁
    rw [Pi.add_apply, Finsupp.add_apply, Pi.add_apply, Finsupp.add_apply, tallyAt_apply, tallyAt_apply, owed_recv d c j order (by decide),
      if_neg (c := _ = cell (p2 d) none ∧ _) (fun h => absurd (cell_inj h.1).2 (by simp)), if_neg (c := _ = cell (p1 d) none ∧ _) (fun h => absurd (cell_inj h.1).2 (by simp)),
      Nat.add_zero]
    exact if_congr (and_iff_right ((by decide : ∀ j : Fin 18, j ∈ order) j)) rfl rfl
  unfold tallyAt; refine congrArg _ (Finsupp.ext fun u => ?_); cases u
  rw [Pipeline.launchCredit_owing, Finsupp.single_eq_same, Finset.sum_congr rfl fun d _ => hd d, Finset.sum_ite_eq' Finset.univ (tgt j c) fun _ => amt j,
    if_pos (Finset.mem_univ _)]

/-- … and each barrier two. -/
theorem credit_bar (c : Dev nD) :
    tallyOn (cell c none) (launchCredit (Pipeline.owing O₀) 0 (cell c none)) = (tallyAt (cell c none) () 2 : CellTallies nD τ sig Unit) := by
  have hd (d : Dev nD) : O₀ d (cell c none) () = (if d = p2 c then 1 else 0) + (if d = p1 c then 1 else 0) := by
    unfold O₀ O₁
    rw [Pi.add_apply, Finsupp.add_apply, Pi.add_apply, Finsupp.add_apply, tallyAt_apply, tallyAt_apply, owed_none, Nat.zero_add]
    refine congrArg₂ (· + ·) (if_congr ⟨fun h => ?_, fun h => ⟨?_, rfl⟩⟩ rfl rfl) (if_congr ⟨fun h => ?_, fun h => ⟨?_, rfl⟩⟩ rfl rfl)
    · rw [(cell_inj h.1).1, p2_p2]
    · rw [h, p2_p2]
    · rw [(cell_inj h.1).1, p1_p1]
    · rw [h, p1_p1]
  unfold tallyAt; refine congrArg _ (Finsupp.ext fun u => ?_); cases u
  rw [Pipeline.launchCredit_owing, Finsupp.single_eq_same, Finset.sum_congr rfl fun d _ => hd d, Finset.sum_add_distrib,
    Finset.sum_ite_eq' Finset.univ (p2 c) fun _ => 1, Finset.sum_ite_eq' Finset.univ (p1 c) fun _ => 1, if_pos (Finset.mem_univ _), if_pos (Finset.mem_univ _)]

/-- The semaphores others pay: the barrier and the receive semaphores. -/
def paid : Option (Fin 18) ↪ SemLoc sig where
  toFun k := csem (k.map fun j => (true, j))
  inj' k k' h := by
    have := csem_inj h
    rcases k with _ | j <;> rcases k' with _ | j'
    · rfl
    · exact absurd this (by simp)
    · exact absurd this (by simp)
    · exact congrArg some (Prod.mk.inj (Option.some.inj this)).2

/-- The launch's credit of device `c`. -/
theorem credits (c : Dev nD) : (Pipeline.launchCred O₀ c : sProp 𝕄)
    ⊢ iprop((bigSep Finset.univ fun j : Fin 18 => cred (tallyAt (cell c (some (true, j))) () (amt j))) ∗ cred (tallyAt (cell c none) () 2)) := by
  unfold Pipeline.launchCred
  have h (Φ : SemLoc sig → sProp 𝕄) : bigSep Finset.univ Φ ⊢ bigSep (Finset.univ.map paid) Φ := bigSep_subset (Finset.subset_univ _)
  refine (h _).trans (Entails.of_eq ?_)
  rw [bigSep_map, bigSep_optional]
  refine congrArg₂ (fun a b : sProp 𝕄 => iprop(a ∗ b)) (bigSep_congr fun j _ => ?_) ?_
  · exact congrArg (fun x => (cred x : sProp 𝕄)) (credit_recv c j)
  · exact congrArg (fun x => (cred x : sProp 𝕄)) (credit_bar c)

end Cert.Butterfly

end
-- ==== Proof.Launch.lean ====
/-
The whole run of the all-reduce: from any memory with zero counters every device ends with the combined block in its
result array, its input as it was, and every counter at zero.
-/
module

public import proofs.«01_k».proof.Proof.Deal
public import proofs.«01_k».proof.Proof.Gen.KernelIdeal.Points
public import Idealize.ShloMosaic.Lib.Pipeline.CollectiveSegs

@[expose] public section

set_option maxRecDepth 65536

noncomputable section

namespace Cert.Butterfly

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Whole buffers -/

/-- Owning a whole memref with known contents is owning all its rows. -/
theorem owns_rows {R : ℕ} (M : Memref sig .tc .vmem ⟨2, ![R, 512]⟩ .f32) (d : Dev nD) (q : PosShare TreeShare) (G : ℕ → ℕ → Elt F .f32) :
    (owns (d : Thread nD τ) M q (tile R G 0) : sProp 𝕄) = At M d 0 R q G 0 := by
  have hr : (∀ f : Buf (Elt F) (M.view.loc (d : Thread nD τ)), (∀ i ∈ rows R 0 R, M.view.read (Elt F) f i = tile R G 0 i) ↔ M.view.read (Elt F) f = tile R G 0) :=
    fun f => by rw [rows_all]; exact ⟨fun h => funext fun i => h i (Finset.mem_univ _), fun h i _ => congrFun h i⟩
  unfold owns At
  simp only [hr]
  rw [rows_all]
  rfl

/-- A memref owned with any contents is free. -/
theorem owns_free {R : ℕ} (hR : 0 < R) (M : Memref sig .tc .vmem ⟨2, ![R, 512]⟩ .f32) (d : Dev nD) (v : Shape.Idx ⟨2, ![R, 512]⟩ → Elt F .f32) :
    (owns (d : Thread nD τ) M fullShare v : sProp 𝕄) ⊢ Free M d 0 R := by
  rw [← tile_tab hR v, owns_rows]
  unfold Free
  iintro H; iexists _; iexact H

/-- A whole buffer with any contents is free, -/
theorem free_in {R : ℕ} (hR : 0 < R) (M : Memref sig .tc .vmem ⟨2, ![R, 512]⟩ .f32) (d : Dev nD) :
    iprop(∃ f : Buf (Elt F) (M.view.loc (d : Thread nD τ)), (M.view.loc (d : Thread nD τ) ↦[M.view.set]{fullShare} f)) ⊢ (Free M d 0 R : sProp 𝕄) := by
  iintro ⟨%f, H⟩
  unfold Free
  iexists (tab hR (M.view.read (Elt F) f))
  iapply (At_whole M d fullShare (tab hR (M.view.read (Elt F) f)) 0 hR f (tile_tab hR _).symm); iexact H
/-- … and conversely. -/
theorem free_out {R : ℕ} (M : Memref sig .tc .vmem ⟨2, ![R, 512]⟩ .f32) (d : Dev nD) :
    (Free M d 0 R : sProp 𝕄) ⊢ iprop(∃ f : Buf (Elt F) (M.view.loc (d : Thread nD τ)), (M.view.loc (d : Thread nD τ) ↦[M.view.set]{fullShare} f)) := by
  unfold Free
  iintro ⟨%G, H⟩
  ihave H := (whole_At M d fullShare G 0) $$ H
  icases H with ⟨%f, -, H⟩
  iexists f; iexact H

variable (m : (ℓ : Loc nD τ sig) → Buf (Elt F) ℓ) (ρ : Dev nD → PrngReg)

/-- The memory before the run: any contents, counters at zero, any generator registers. -/
def s₀ : MemSt nD τ sig (Elt F) := ⟨m, fun _ => 0, ρ⟩

/-- Device `c`'s block of the input, as the pipeline brings it, -/
def block (c : Dev nD) : (cc0_stg0_0 : Ref sig .tc).ty.Contents (Elt F) :=
  (win0_0.blk (0 : Fin 1)).view.read (Elt F) ((s₀ m ρ).mem ((c : Thread nD τ).loc main_arg0))
/-- … as a table of rows, -/
def inp (c : Dev nD) : ℕ → ℕ → Elt F .f32 := tab (n := 2048) (by decide) (block m ρ c)
/-- … and the result. -/
def res : (cc0_stg1_0 : Ref sig .tc).ty.Contents (Elt F) := tile 2048 (FIN (inp m ρ)) 0

/-! ## What the kernel has at its start and at its end -/

/-- The landing buffers, holding anything. -/
def Landing (c : Dev nD) : sProp 𝕄 :=
  iprop(Free (F := F) sM0 c 0 256 ∗ Free (F := F) sM1 c 0 256 ∗ Free (F := F) sM2 c 0 256 ∗ Free (F := F) sM3 c 0 256 ∗ Free (F := F) sM4 c 0 256 ∗ Free (F := F) sM5 c 0 256)

/-- A device ready to run, with its credit. -/
def Begin (c : Dev nD) : sProp 𝕄 :=
  iprop(Ready (inp m ρ) c ∗ ((bigSep Finset.univ fun j : Fin 18 => cred (tallyAt (cell c (some (true, j))) () (amt j))) ∗ cred (tallyAt (cell c none) () 2)) ∗ levAts L lv)
/-- A device before its body, with its landing buffers. -/
def Before (c : Dev nD) : sProp 𝕄 := iprop(Begin m ρ c ∗ Landing c)
/-- After the kernel: the landing buffers, and every counter at zero. -/
def After (c : Dev nD) : sProp 𝕄 :=
  iprop(Landing (F := F) c ∗ semVal (cell c none) 0
    ∗ (bigSep Finset.univ fun j : Fin 18 => semVal (cell c (some (false, j))) 0) ∗ (bigSep Finset.univ fun j : Fin 18 => semVal (cell c (some (true, j))) 0))

/-- The places and tokens of a device, with its credit, are what the kernel starts from. -/
theorem ghost_of (c : Dev nD) :
    iprop(Mine c ∗ ((bigSep Finset.univ fun j : Fin 18 => cred (tallyAt (cell c (some (true, j))) () (amt j))) ∗ cred (tallyAt (cell c none) () 2)))
      ⊢ (Ghost c : sProp 𝕄) := by
  unfold Mine Ghost
  rw [bigSep_optional, bigSep_sides]
  have hA : (bigSep Finset.univ fun j : Fin 18 => (Arm c j : sProp 𝕄))
      = iprop((bigSep Finset.univ fun j : Fin 18 => atPos ER (cell c (some (false, j))) 0 ∅ 0) ∗ (bigSep Finset.univ fun j : Fin 18 => dutyTok ER (cell c (some (false, j))) 0 false)
        ∗ (bigSep Finset.univ fun j : Fin 18 => dutyTok ER (cell (tgt j c) (some (true, j))) 0 false)) := by
    unfold Arm; rw [bigSep_sep', bigSep_sep']
  have hP : (bigSep Finset.univ fun j : Fin 18 => (Pend c (true, j) : sProp 𝕄))
      = iprop((bigSep Finset.univ fun j : Fin 18 => atPos ER (cell c (some (true, j))) 0 ∅ 0) ∗ (bigSep Finset.univ fun j : Fin 18 => cred (tallyAt (cell c (some (true, j))) () (amt j)))) := by
    unfold Pend; rw [bigSep_sep']
  rw [hA, hP]
  iintro ⟨⟨⟨⟨aS, aR⟩, aB⟩, ⟨t1, t2⟩, tS, tR⟩, cR, cB⟩
  isplitl [aB]; · iexact aB
  isplitl [cB]; · iexact cB
  isplitl [t1]; · iexact t1
  isplitl [t2]; · iexact t2
  isplitl [aS tS tR]
  · isplitl [aS]; · iexact aS
    isplitl [tS]; · iexact tS
    iexact tR
  isplitl [aR]; · iexact aR
  iexact cR

/-! ## The pipeline's data -/

/-- What the pipeline carries on each device: the argument in, the result out. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => block m ρ c
    | ⟨1, _⟩ => res m ρ
  Φ t := match t with
    | ⟨0, _⟩ => Before m ρ c
    | ⟨_ + 1, _⟩ => After c
  q _ := fullShare
  owed t := match t with
    | ⟨0, _⟩ => O₀ c
    | ⟨_ + 1, _⟩ => 0

/-- What the body has at the one grid point, -/
def pointPre (c : Dev nD) : sProp 𝕄 :=
  iprop(Before m ρ c ∗ (dats m ρ 0 c).owesAt () (t0_0 : Fin cfg0.N).castSucc
    ∗ (∃ d, owns (c : Thread nD τ) xM fullShare ((dats m ρ 0 c).before (0 : Fin 2) (t0_0 : Fin cfg0.N) d))
    ∗ (∃ d, owns (c : Thread nD τ) oM fullShare ((dats m ρ 0 c).before (1 : Fin 2) (t0_0 : Fin cfg0.N) d)))
/-- … and what it leaves. -/
def pointPost (c : Dev nD) : sProp 𝕄 :=
  iprop(After c ∗ (dats m ρ 0 c).owesAt () (t0_0 : Fin cfg0.N).succ
    ∗ owns (c : Thread nD τ) xM fullShare (block m ρ c) ∗ owns (c : Thread nD τ) oM fullShare (res m ρ))

/-- The kernel does at its grid point what the pipeline asks of it. -/
theorem body_obligation (c : Dev nD) : BodyObligation (dats (F := F) m ρ 0 c) (defs₀ (F := F)) 𝒱₀ () Set.univ := fun t => by
  rw [fin_N0 t, bigSep_W0, bigSep_W0]
  show pointPre m ρ c ⊢ WP c (cc0_body xM (Memref.isWhole_whole _) oM (Memref.isWhole_whole _) sM0 (Memref.isWhole_whole _) sM1 (Memref.isWhole_whole _) sM2 (Memref.isWhole_whole _)
          sM3 (Memref.isWhole_whole _) sM4 (Memref.isWhole_whole _) sM5 (Memref.isWhole_whole _) cc0_scratch6 cc0_scratch7) (fun _ => pointPost m ρ c)
  unfold pointPre Before Begin Ready Landing
  iintro ⟨⟨⟨⟨%K, #HR, Hm⟩, Hc, #HL⟩, b0, b1, b2, b3, b4, b5⟩, HO, ⟨%d0, Hx⟩, ⟨%d1, Ho⟩⟩
  have hx : (dats m ρ 0 c).before (0 : Fin 2) (t0_0 : Fin cfg0.N) d0 = tile 2048 (inp m ρ c) 0 := by
    unfold Dat.before; rw [if_pos (fetch0_0 t0_0)]; exact (tile_tab _ _).symm
  ihave Hx := (show owns (c : Thread nD τ) xM fullShare ((dats m ρ 0 c).before (0 : Fin 2) (t0_0 : Fin cfg0.N) d0) ⊢ At xM c 0 2048 fullShare (inp m ρ c) 0 from
    Entails.of_eq ((congrArg (owns (c : Thread nD τ) xM fullShare) hx).trans (owns_rows xM c fullShare (inp m ρ c)))) $$ Hx
  unfold Dat.owesAt Pipeline.owesWithin
  icases HO with ⟨%W, -, HO⟩
  iapply (run_body (inp m ρ) K c) $$ [Hm Hc HO Hx Ho b0 b1 b2 b3 b4 b5]
  · isplitr; · iexact HR
    isplitr; · iexact HL
    isplitl [Hm Hc]
    · iapply (ghost_of (F := F) c); isplitl [Hm]; · iexact Hm
      iexact Hc
    isplitl [HO]; · iexists W; iexact HO
    isplitl [Hx]; · iexact Hx
    isplitl [Ho]; · iapply (owns_free (by decide) oM c _); iexact Ho
    isplitl [b0]; · iexact b0
    isplitl [b1]; · iexact b1
    isplitl [b2]; · iexact b2
    isplitl [b3]; · iexact b3
    isplitl [b4]; · iexact b4
    iexact b5
  unfold Done pointPost After Landing
  iintro ⟨Hx, Ho, b0, b1, b2, b3, b4, b5, HO, zB, zS, zR⟩
  isplitl [b0 b1 b2 b3 b4 b5 zB zS zR]
  · isplitl [b0 b1 b2 b3 b4 b5]
    · isplitl [b0]; · iexact b0
      isplitl [b1]; · iexact b1
      isplitl [b2]; · iexact b2
      isplitl [b3]; · iexact b3
      isplitl [b4]; · iexact b4
      iexact b5
    isplitl [zB]; · iexact zB
    isplitl [zS]; · iexact zS
    iexact zR
  isplitl [HO]
  · unfold Owes Dat.owesAt Pipeline.owesWithin
    icases HO with ⟨%W', HO⟩
    iexists W'; isplitr; · ipureintro; exact fun _ _ => Or.inl trivial
    iexact HO
  isplitl [Hx]
  · rw [show block m ρ c = tile 2048 (inp m ρ c) 0 from (tile_tab _ _).symm, owns_rows]; iexact Hx
  rw [show res m ρ = tile 2048 (FIN (inp m ρ)) 0 from rfl, owns_rows]; iexact Ho

/-! ## The launch -/

/-- The semaphores of the kernel are those it declares. -/
theorem own_sems : Pipeline.OwnSemFacts cfg0.spec osem := by decide

/-- The arrays are held in full. -/
theorem share_full (c : Dev nD) (w : Fin cfg0.W) : (dats m ρ 0 c).share w = fullShare := by unfold Dat.share; split <;> rfl

/-- The launch's element: the pipeline's, and the kernel's rounds. -/
def u₀ : UU := (initOf (Pipeline.cells cfgs cellOf_inj) (Pipeline.launchToks cfgs cellOf_inj), initOf allCells allDuties)

/-- What is dealt to a device, with its credit, is what it begins with. -/
theorem begin_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Ready (inp m ρ) c)
      ⊢ |={Set.univ}=> iprop(Begin m ρ c ∗ emp) := by
  iintro ⟨-, HL, Hc, -, HG⟩
  ihave Hc := (credits (F := F) c) $$ Hc
  imodintro
  unfold Begin
  isplitl
  · isplitl [HG]; · iexact HG
    isplitl [Hc]; · iexact Hc
    iexact HL
  · iempintro

/-- With its landing buffers it is ready for the body. -/
theorem before_intro (c : Dev nD) :
    iprop(Begin m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Before m ρ c from rfl, scopedRest0_eq]
  unfold Before Landing
  iintro ⟨Hs, -, b0, b1, b2, b3, b4, b5⟩
  isplitl [Hs]; · iexact Hs
  isplitl [b0]; · iapply (free_in (by decide) sM0 c); simp only [View.set_whole, Memref.view_whole]; iexact b0
  isplitl [b1]; · iapply (free_in (by decide) sM1 c); simp only [View.set_whole, Memref.view_whole]; iexact b1
  isplitl [b2]; · iapply (free_in (by decide) sM2 c); simp only [View.set_whole, Memref.view_whole]; iexact b2
  isplitl [b3]; · iapply (free_in (by decide) sM3 c); simp only [View.set_whole, Memref.view_whole]; iexact b3
  isplitl [b4]; · iapply (free_in (by decide) sM4 c); simp only [View.set_whole, Memref.view_whole]; iexact b4
  iapply (free_in (by decide) sM5 c); simp only [View.set_whole, Memref.view_whole]; iexact b5

/-- After the body the landing buffers and counters are given back. -/
theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = After c from rfl, scopedRest0_eq, barrier_only]
  unfold After Landing Pipeline.ownSems0
  rw [bigSep_sides]
  iintro ⟨⟨b0, b1, b2, b3, b4, b5⟩, zB, zS, zR⟩
  isplitl [zB]; · iexact zB
  isplitl [zS zR]
  · isplitl [zS]; · iexact zS
    iexact zR
  isplitl [b0]; · ihave b0 := (free_out (F := F) sM0 c) $$ b0; simp only [View.set_whole, Memref.view_whole]; iexact b0
  isplitl [b1]; · ihave b1 := (free_out (F := F) sM1 c) $$ b1; simp only [View.set_whole, Memref.view_whole]; iexact b1
  isplitl [b2]; · ihave b2 := (free_out (F := F) sM2 c) $$ b2; simp only [View.set_whole, Memref.view_whole]; iexact b2
  isplitl [b3]; · ihave b3 := (free_out (F := F) sM3 c) $$ b3; simp only [View.set_whole, Memref.view_whole]; iexact b3
  isplitl [b4]; · ihave b4 := (free_out (F := F) sM4 c) $$ b4; simp only [View.set_whole, Memref.view_whole]; iexact b4
  ihave b5 := (free_out (F := F) sM5 c) $$ b5; simp only [View.set_whole, Memref.view_whole]; iexact b5

/-- The pipeline's own waits are allowed. -/
theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the run leaves in the array of window `w`. -/
def final (c : Dev nD) (w : Fin cfg0.W) : Buf (Elt F) ((cfg0.win w).arr.view.loc (c : Thread nD τ)) := (dats m ρ 0 c).arrAt w cfg0.N

/-- Every array of every device is as computed. -/
def Final : PUnit × MemSt nD τ sig (Elt F) → Prop := fun r =>
  ∀ c : Dev nD, ∀ w : Fin cfg0.W, r.2.mem ((cfg0.win w).arr.view.loc (c : Thread nD τ)) = final m ρ c w

/-- On four devices, for any float values and from any memory with zero counters, every fair execution of the program
    ends, with each device's arrays as computed and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := stage_waits m ρ)
    (G := Dealt (inp m ρ)) (G' := Ready (inp m ρ)) (u₀ := u₀)
    (hu₀ := by
      unfold u₀
      iintro Hu
      ihave H := (ownU_pair _ _) $$ Hu
      icases H with ⟨HP, HX⟩
      imod (deal (inp m ρ)) $$ HX with HG
      imodintro
      isplitl [HP] <;> iassumption)
    (hglob := ready (inp m ρ))
    (hA := fun _ _ => rfl) (hpf := fun _ k => k.elim0)
    (X := Begin m ρ) (Y := fun c => unscopedSems0 c) (Z := fun _ => iprop(emp))
    (hX := begin_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input array holds what it held. -/
theorem final_x (c : Dev nD) : final m ρ c (0 : Fin 2) = (s₀ m ρ).mem (win0_0.arr.view.loc (c : Thread nD τ)) :=
  (dats (F := F) m ρ 0 c).arrAt_in (0 : Fin 2) rfl _

end Cert.Butterfly

end
-- ==== Proof.Result.lean ====
/-
What the device memories hold at the end of the run: the result array, and the argument array.
-/
module

public import proofs.«01_k».proof.Proof.Launch
public import Idealize.ShloMosaic.Lib.Pipeline.Value

@[expose] public section

noncomputable section

namespace Cert.Butterfly

open Cert.KernelIdeal Cert.KernelIdeal.Gen
open Idealize.ShloMosaic
open Idealize.ShloMosaic.TcCoe
open Idealize.SL.Sem

set_option maxRecDepth 65536

variable {F : FTy → Type} [FloatOps F]
variable (m : (ℓ : Loc nD τ sig) → Buf (Elt F) ℓ) (ρ : Dev nD → PrngReg)

/-- The one block of the argument's window is the whole array, -/
theorem emb_in (i : S2048x512.Idx) : (win0_0.rect (t0_0 : Fin grid0.N)).emb i = i := by
  have e : win0_0.index t0_0 0 * win0_0.size 0 = 0 ∧ win0_0.index t0_0 1 * win0_0.size 1 = 0 := by decide +kernel
  funext a; apply Fin.ext; rw [Rect.emb_apply]
  fin_cases a
  · show win0_0.index t0_0 0 * win0_0.size 0 + 1 * (i 0).val = (i 0).val
    rw [e.1]; omega
  · show win0_0.index t0_0 1 * win0_0.size 1 + 1 * (i 1).val = (i 1).val
    rw [e.2]; omega

/-- … and so is the one of the result's. -/
theorem emb_out (i : S2048x512.Idx) : (win0_1.rect (t0_0 : Fin grid0.N)).emb i = i := by
  have e : win0_1.index t0_0 0 * win0_1.size 0 = 0 ∧ win0_1.index t0_0 1 * win0_1.size 1 = 0 := by decide +kernel
  funext a; apply Fin.ext; rw [Rect.emb_apply]
  fin_cases a
  · show win0_1.index t0_0 0 * win0_1.size 0 + 1 * (i 0).val = (i 0).val
    rw [e.1]; omega
  · show win0_1.index t0_0 1 * win0_1.size 1 + 1 * (i 1).val = (i 1).val
    rw [e.2]; omega

/-- The block the pipeline brings is the argument. -/
theorem block_eq (c : Dev nD) : block m ρ c = m ((c : Thread nD τ).loc main_arg0) := by
  funext i
  exact congrArg (m ((c : Thread nD τ).loc main_arg0)) (emb_in i)

/-- The result array ends holding the result table. -/
theorem final_out (c : Dev nD) : final m ρ c (1 : Fin 2) = res m ρ := by
  unfold final
  refine (dats m ρ 0 c).arrAt_eq_of_cover 1 (res m ρ) (fun t _ => ?_) (fun i => ⟨t0_0, flush0_1 _, ?_⟩)
  · obtain rfl := fin_N0 t
    have ha : (dats m ρ 0 c).after 1 t0_0 = res m ρ := by dsimp only [dats]
    unfold Pipeline.Dat.flushed
    rw [ha]
    funext i
    exact (congrArg (res m ρ) (emb_out i)).symm
  · show i ∈ ((View.whole main_v1).slice (win0_1.rect t0_0)).set
    rw [View.set_slice_whole, LoadRect.mem_set]
    intro a
    refine ⟨(i a).val, (i a).isLt, ?_⟩
    have h := congrArg (fun j : S2048x512.Idx => (j a).val) (emb_out i)
    rw [← Rect.emb_apply]; exact h.symm

/-- Every run ends with each device's result array holding the result table, its argument array as it was, and every
    counter at zero. -/
theorem run_end : θ_run defs (onTc (τ := τ) (main (F := F))) (s₀ m ρ) (fun r => (∀ c : Dev nD,
    r.2.mem ((c : Thread nD τ).loc main_v1) = res m ρ ∧ r.2.mem ((c : Thread nD τ).loc main_arg0) = m ((c : Thread nD τ).loc main_arg0))
      ∧ r.2.sem = fun _ => 0) :=
  (θ_run defs _ _).mono (fun _ h => ⟨fun c => ⟨(h.1 c (1 : Fin 2)).trans (final_out m ρ c), (h.1 c (0 : Fin 2)).trans (final_x m ρ c)⟩, h.2⟩)
    (run_main m ρ)

end Cert.Butterfly

end
-- ==== Proof.Value.lean ====
/-
Over the extended reals the result is the sum of the four inputs, which is what the reference computes.
-/
module

public import proofs.«01_k».proof.Proof.Result
public import proofs.«01_k».proof.Proof.Gen.ReferenceIdeal.Run
public import Idealize.ShloMosaic.Lib.Layout
public import Idealize.ShloMosaic.Lib.Pointwise.Reduce
public import Idealize.ShloMosaic.Lib.Pointwise.Reshape
public import Idealize.ShloMosaic.PureOps.Ideal.Laws

@[expose] public section

noncomputable section

namespace Cert.Butterfly

open Cert.KernelIdeal Cert.KernelIdeal.Gen
open Idealize.ShloMosaic
open Idealize.ShloMosaic.TcCoe

/-- The sum a device makes of the first half's rows is of all four inputs, whatever the device; -/
theorem FA_sum (X : Dev nD → ℕ → ℕ → Elt Ideal .f32) (c : Dev nD) (r k : ℕ) :
    (FA X c r k : EReal) = (X 0 r k : EReal) + X 1 r k + X 2 r k + X 3 r k := by
  show ((X c r k : EReal) + X (p1 c) r k) + ((X (p2 c) r k : EReal) + X (p1 (p2 c)) r k) = _
  rcases dev_cases c with rfl | rfl | rfl | rfl
  · rw [show p1 0 = 1 from by decide, show p2 0 = 3 from by decide, show p1 3 = 2 from by decide]; abel
  · rw [show p1 1 = 0 from by decide, show p2 1 = 2 from by decide, show p1 2 = 3 from by decide]; abel
  · rw [show p1 2 = 3 from by decide, show p2 2 = 1 from by decide, show p1 1 = 0 from by decide]; abel
  · rw [show p1 3 = 2 from by decide, show p2 3 = 0 from by decide, show p1 0 = 1 from by decide]; abel

/-- … and so is that of the second half's. -/
theorem FB_sum (X : Dev nD → ℕ → ℕ → Elt Ideal .f32) (c : Dev nD) (r k : ℕ) :
    (FB X c r k : EReal) = (X 0 r k : EReal) + X 1 r k + X 2 r k + X 3 r k := by
  show ((X c r k : EReal) + X (p2 c) r k) + ((X (p1 c) r k : EReal) + X (p2 (p1 c)) r k) = _
  rcases dev_cases c with rfl | rfl | rfl | rfl
  · rw [show p1 0 = 1 from by decide, show p2 0 = 3 from by decide, show p2 1 = 2 from by decide]; abel
  · rw [show p1 1 = 0 from by decide, show p2 1 = 2 from by decide, show p2 0 = 3 from by decide]; abel
  · rw [show p1 2 = 3 from by decide, show p2 2 = 1 from by decide, show p2 3 = 0 from by decide]; abel
  · rw [show p1 3 = 2 from by decide, show p2 3 = 0 from by decide, show p2 2 = 1 from by decide]; abel

/-- So every element of the result is the sum of the four inputs' elements. -/
theorem FIN_sum (X : Dev nD → ℕ → ℕ → Elt Ideal .f32) (r k : ℕ) :
    (FIN X r k : EReal) = (X 0 r k : EReal) + X 1 r k + X 2 r k + X 3 r k := by
  unfold FIN
  split
  · exact FA_sum X _ r k
  · exact FB_sum X _ r k

/-- The whole array's index of row `r`, column `k` of block `d`. -/
def at4 (d : Fin 4) (j : S2048x512.Idx) : Cert.ReferenceIdeal.S8192x512.Idx := fun a => match a with
  | ⟨0, _⟩ => ⟨d.val * 2048 + (j 0).val, by have := d.isLt; have : (j 0).val < 2048 := (j 0).isLt; show _ < 8192; omega⟩
  | ⟨1, _⟩ => ⟨(j 1).val, (j 1).isLt⟩

/-- The whole array seen as four stacked blocks, at an element of block `d`. -/
theorem stacked_at (x : Cert.ReferenceIdeal.S8192x512.Idx → EReal) (d : Fin 4) (j : S2048x512.Idx) (a : Fin 2048) (b : Fin 512)
    (ha : a.val = (j 0).val) (hb : b.val = (j 1).val) :
    shapeCast Cert.ReferenceIdeal.S4x2048x512 x Cert.ReferenceIdeal.Gen.shapeCasts_S8192x512_S4x2048x512 (ix3 d a b) = x (at4 d j) := by
  refine shapeCast_apply x _ _ _ ?_
  rw [rowMajor_val2 (at4 d j) 512 rfl, rowMajor_val3 (ix3 d a b) (2048 * 512) 512 rfl rfl]
  show (d.val * 2048 + (j 0).val) * 512 + (j 1).val = d.val * (2048 * 512) + a.val * 512 + b.val
  omega

/-- The reference's value at an index: the sum of the four blocks' elements there. -/
theorem reference_at (x : Cert.ReferenceIdeal.S8192x512.Idx → EReal) (j : S2048x512.Idx) :
    (Host.reduceAdd (F := Ideal) (φ := .f32) (shapeCast Cert.ReferenceIdeal.S4x2048x512 x Cert.ReferenceIdeal.Gen.shapeCasts_S8192x512_S4x2048x512)
      (constant Cert.ReferenceIdeal.S_ .f32 0x00000000#32) Cert.ReferenceIdeal.Gen.reducesTo_S4x2048x512_S2048x512_d0 Cert.ReferenceIdeal.Gen.h_S_ j : EReal)
      = x (at4 0 j) + x (at4 1 j) + x (at4 2 j) + x (at4 3 j) := by
  rw [Host.reduceAdd_apply, Ideal.hostReduceAdd_def]
  refine (Ideal.hostReduceAdd_r3_a0 _ _ _ j).trans ?_
  rw [show (constant (F := Ideal) Cert.ReferenceIdeal.S_ .f32 0x00000000#32 (Shape.Idx.first Cert.ReferenceIdeal.Gen.h_S_) : EReal) = 0 from Ideal.ofBits_zero_f32,
    zero_add, Fin.sum_univ_four]
  exact congrArg₂ (· + ·) (congrArg₂ (· + ·) (congrArg₂ (· + ·) (stacked_at x 0 j _ _ rfl rfl) (stacked_at x 1 j _ _ rfl rfl))
    (stacked_at x 2 j _ _ rfl rfl)) (stacked_at x 3 j _ _ rfl rfl)

/-- An input read as a table, at an index. -/
theorem tab_at (v : S2048x512.Idx → Elt Ideal .f32) (j : S2048x512.Idx) : tab (F := Ideal) (n := 2048) (by decide) v (0 + (j 0).val) (j 1).val = v j :=
  congrFun (tile_tab (F := Ideal) (n := 2048) (by decide) v) j

/-- When the devices' arguments are the four blocks of the whole array, the kernel's result is the reference's. -/
theorem result_eq (m : (ℓ : Loc nD τ sig) → Buf (Elt Ideal) ℓ) (ρ : Dev nD → PrngReg) (x : Cert.ReferenceIdeal.S8192x512.Idx → EReal)
    (hx : ∀ c : Dev nD, m ((c.tc : Thread nD τ).loc main_arg0) = Layout.block ⟨2, ![2048, 512]⟩ ⟨2, ![8192, 512]⟩ 0 4 c x) :
    res m ρ = Host.reduceAdd (F := Ideal) (φ := .f32) (shapeCast Cert.ReferenceIdeal.S4x2048x512 x Cert.ReferenceIdeal.Gen.shapeCasts_S8192x512_S4x2048x512)
      (constant Cert.ReferenceIdeal.S_ .f32 0x00000000#32) Cert.ReferenceIdeal.Gen.reducesTo_S4x2048x512_S2048x512_d0 Cert.ReferenceIdeal.Gen.h_S_ := by
  have hi (c : Dev nD) (j : S2048x512.Idx) : (inp m ρ c (0 + (j 0).val) (j 1).val : EReal) = x (at4 c j) := by
    unfold inp
    rw [tab_at, block_eq, hx c, Layout.block_apply]
    congr 1
    funext a
    match a with
    | ⟨0, _⟩ => exact Fin.ext rfl
    | ⟨1, _⟩ => exact Fin.ext rfl
  funext j
  refine Eq.trans ?_ (reference_at x j).symm
  show (FIN (inp m ρ) (0 + (j 0).val) (j 1).val : EReal) = _
  rw [FIN_sum, hi, hi, hi, hi]

end Cert.Butterfly

end
-- ==== Proof.Same.lean ====
/-
The kernel as printed for the bit patterns and as printed for the extended reals is one program: its bodies agree, label
by label.
-/
module

public import proofs.«01_k».proof.Defs
public import proofs.«01_k».proof.Proof.Gen.Kernel
public import proofs.«01_k».proof.Proof.Gen.KernelIdeal

@[expose] public section

noncomputable section

namespace Cert.Butterfly

open Idealize.ShloMosaic

variable {F : FTy → Type} [FloatOps F]

/-- The kernels' bodies agree, -/
theorem bodies_same : Cert.KernelIdeal.defs₀ (F := F) = Cert.Kernel.defs₀ (F := F) := by
  unfold Cert.KernelIdeal.defs₀ Cert.Kernel.defs₀
  refine congrArg Defs.onTc ?_
  funext l a
  match l, a with
  | 0, (t, s) => rfl
  | ⟨n + 1, h⟩, _ => exact absurd h (Nat.not_lt.2 (Nat.le_add_left _ _))

/-- … and so do the tables of what the programs call. -/
theorem tables_same : Cert.KernelIdeal.defs (F := F) = Cert.Kernel.defs (F := F) :=
  congrArg (Pipeline.defs (Cert.KernelIdeal.pcfgs (F := F))) bodies_same

end Cert.Butterfly

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs to its end at the bit patterns, its argument unchanged and its counters at zero. -/
theorem frame_kernel : Cert.quiescent_Kernel := fun m ρ _ => by
  have h : θ_run Cert.KernelIdeal.defs (onTc (τ := Cert.KernelIdeal.τ) (Cert.KernelIdeal.main (F := Bits))) (Cert.Butterfly.s₀ (F := Bits) m ρ) (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
    (θ_run Cert.KernelIdeal.defs _ _).mono (fun _ h => ⟨fun c => (h.1 c).2, h.2⟩) (Cert.Butterfly.run_end (F := Bits) m ρ)
  rw [Cert.Butterfly.tables_same] at h
  exact h

/-- So does the kernel over the extended reals, -/
theorem frame_kernel_ideal : Cert.quiescent_KernelIdeal := fun m ρ _ =>
  (θ_run Cert.KernelIdeal.defs _ _).mono (fun _ h => ⟨fun c => (h.1 c).2, h.2⟩) (Cert.Butterfly.run_end (F := Ideal) m ρ)

/-- … and the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with the same result. -/
theorem same_result : Cert.algebraic_KernelIdeal_ReferenceIdeal := fun m ρ m' ρ' _ hx =>
  ⟨_, (θ_run Cert.KernelIdeal.defs _ _).mono (fun _ h c => ⟨(h.1 c).1.trans (Cert.Butterfly.result_eq m ρ _ hx), (h.1 c).2⟩)
      (Cert.Butterfly.run_end (F := Ideal) m ρ),
    (θ_run Cert.ReferenceIdeal.defs _ _).mono (fun _ h => h 0) (Cert.ReferenceIdeal.Value.run (F := Ideal) m' ρ')⟩

/-- The five claims. -/
theorem claim : Cert.Claim := ⟨Cert.Kernel.Gen.facts, Cert.KernelIdeal.Gen.facts, Cert.ReferenceIdeal.Gen.facts,
  frame_kernel, frame_kernel_ideal, frame_reference, trivial, same_result⟩

end Cert.Proof

end
